-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S100000x128 : Shape := ⟨2, ![100000, 128]⟩
abbrev S128 : Shape := ⟨1, ![128]⟩
abbrev S1x128 : Shape := ⟨2, ![1, 128]⟩
abbrev S_ : Shape := ⟨0, ![]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S1024x10 : Shape := ⟨2, ![1024, 10]⟩
abbrev S8192x128 : Shape := ⟨2, ![8192, 128]⟩
abbrev S4x3x1024x128 : Shape := ⟨4, ![4, 3, 1024, 128]⟩
abbrev S4x2x1024x128 : Shape := ⟨4, ![4, 2, 1024, 128]⟩
abbrev S128x128 : Shape := ⟨2, ![128, 128]⟩
abbrev S1x1x128x128 : Shape := ⟨4, ![1, 1, 128, 128]⟩
abbrev S1x1x1024x128 : Shape := ⟨4, ![1, 1, 1024, 128]⟩
abbrev S1024x8192 : Shape := ⟨2, ![1024, 8192]⟩
abbrev S1024x256 : Shape := ⟨2, ![1024, 256]⟩

abbrev nBuf : Space → Nat
  | .hbm => 43
  | .vmem => 15
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S128, .f32⟩
  | .hbm, ⟨3, _⟩ => ⟨S1x128, .f32⟩
  | .hbm, ⟨4, _⟩ => ⟨S1024x128, .f32⟩
  | .hbm, ⟨5, _⟩ => ⟨S1024x128, .f32⟩
  | .hbm, ⟨6, _⟩ => ⟨S1x128, .f32⟩
  | .hbm, ⟨7, _⟩ => ⟨S100000x128, .f32⟩
  | .hbm, ⟨8, _⟩ => ⟨S100000x128, .f32⟩
  | .hbm, ⟨9, _⟩ => ⟨S1024x128, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x128, .f32⟩
  | .hbm, ⟨18, _⟩ => ⟨S1024x128, .f32⟩
  | .hbm, ⟨19, _⟩ => ⟨S100000x128, .f32⟩
  | .hbm, ⟨20, _⟩ => ⟨S_, .f32⟩
  | .hbm, ⟨21, _⟩ => ⟨S100000, .f32⟩
  | .hbm, ⟨22, _⟩ => ⟨S100000x1, .f32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S1024x10, .f32⟩
  | .hbm, ⟨30, _⟩ => ⟨S1024x10, .i32⟩
  | .hbm, ⟨31, _⟩ => ⟨S1024x128, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S1024x10, .f32⟩
  | .hbm, ⟨38, _⟩ => ⟨S1024x10, .i32⟩
  | .hbm, ⟨39, _⟩ => ⟨S1024x128, .f32⟩
  | .hbm, ⟨40, _⟩ => ⟨S1024x128, .i32⟩
  | .hbm, ⟨41, _⟩ => ⟨S1024x10, .f32⟩
  | .hbm, ⟨42, _⟩ => ⟨S1024x10, .i32⟩
  | .local _ .vmem, ⟨0, _⟩ => ⟨S1024x128, .f32⟩
  | .local _ .vmem, ⟨1, _⟩ => ⟨S8192x128, .f32⟩
  | .local _ .vmem, ⟨2, _⟩ => ⟨S8192x128, .f32⟩
  | .local _ .vmem, ⟨3, _⟩ => ⟨S1024x10, .f32⟩
  | .local _ .vmem, ⟨4, _⟩ => ⟨S1024x10, .i32⟩
  | .local _ .vmem, ⟨5, _⟩ => ⟨S1024x128, .i32⟩
  | .local _ .vmem, ⟨6, _⟩ => ⟨S4x3x1024x128, .f32⟩
  | .local _ .vmem, ⟨7, _⟩ => ⟨S4x2x1024x128, .i32⟩
  | .local _ .vmem, ⟨8, _⟩ => ⟨S1024x128, .f32⟩
  | .local _ .vmem, ⟨9, _⟩ => ⟨S8192x128, .f32⟩
  | .local _ .vmem, ⟨10, _⟩ => ⟨S8192x128, .f32⟩
  | .local _ .vmem, ⟨11, _⟩ => ⟨S1024x128, .f32⟩
  | .local _ .vmem, ⟨12, _⟩ => ⟨S1024x128, .i32⟩
  | .local _ .vmem, ⟨13, _⟩ => ⟨S1024x128, .f32⟩
  | .local _ .vmem, ⟨14, _⟩ => ⟨S1024x128, .i32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_c : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_case0b1_v21_0 : Ref sig .tc := ⟨.hbm, 39, rfl⟩
abbrev main_case0b1_v21_1 : Ref sig .tc := ⟨.hbm, 40, rfl⟩
abbrev main_case0b1_v22 : Ref sig .tc := ⟨.hbm, 41, rfl⟩
abbrev main_case0b1_v23 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c12_i32_1661 : BitVec 32 := 12#32
  let v8230 : BitVec 1 := Scalar.cmpi .eq arg0 c12_i32_1661
  let v8231 : BitVec 32 := Scalar.extui v8230
  let c0_i32_1662 : BitVec 32 := 0#32
  let v8232 : BitVec 1 := Scalar.cmpi .ne v8231 c0_i32_1662
  v8232

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x10 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![13], ![false]⟩

def k1_cond2 (i : grid1.Coords) : BitVec 1 :=
  let arg0 : BitVec 32 := BitVec.ofNat 32 (i 0).val
  let c12_i32 : BitVec 32 := 12#32
  let v481 : BitVec 1 := Scalar.cmpi .eq arg0 c12_i32
  let v482 : BitVec 32 := Scalar.extui v481
  let c0_i32_125 : BitVec 32 := 0#32
  let v483 : BitVec 1 := Scalar.cmpi .ne v482 c0_i32_125
  v483

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x128 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== ReferenceIdeal.lean ====
abbrev S1024x128 : Shape := ⟨2, ![1024, 128]⟩
abbrev S100000x128 : Shape := ⟨2, ![100000, 128]⟩
abbrev S128 : Shape := ⟨1, ![128]⟩
abbrev S1x128 : Shape := ⟨2, ![1, 128]⟩
abbrev S_ : Shape := ⟨0, ![]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S128x100000 : Shape := ⟨2, ![128, 100000]⟩
abbrev S1024x100000 : Shape := ⟨2, ![1024, 100000]⟩
abbrev S1024x10 : Shape := ⟨2, ![1024, 10]⟩

abbrev nBuf : Space → Nat
  | .hbm => 33
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S128, .f32⟩
  | .hbm, ⟨3, _⟩ => ⟨S1x128, .f32⟩
  | .hbm, ⟨4, _⟩ => ⟨S1024x128, .f32⟩
  | .hbm, ⟨5, _⟩ => ⟨S1024x128, .f32⟩
  | .hbm, ⟨6, _⟩ => ⟨S1x128, .f32⟩
  | .hbm, ⟨7, _⟩ => ⟨S100000x128, .f32⟩
  | .hbm, ⟨8, _⟩ => ⟨S100000x128, .f32⟩
  | .hbm, ⟨9, _⟩ => ⟨S1024x128, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x128, .f32⟩
  | .hbm, ⟨18, _⟩ => ⟨S1024x128, .f32⟩
  | .hbm, ⟨19, _⟩ => ⟨S100000x128, .f32⟩
  | .hbm, ⟨20, _⟩ => ⟨S_, .f32⟩
  | .hbm, ⟨21, _⟩ => ⟨S100000, .f32⟩
  | .hbm, ⟨22, _⟩ => ⟨S100000x1, .f32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S128x100000, .f32⟩
  | .hbm, ⟨30, _⟩ => ⟨S1024x100000, .f32⟩
  | .hbm, ⟨31, _⟩ => ⟨S1024x10, .f32⟩
  | .hbm, ⟨32, _⟩ => ⟨S1024x10, .i32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_values : Ref sig .tc := ⟨.hbm, 31, rfl⟩
abbrev main_indices : Ref sig .tc := ⟨.hbm, 32, rfl⟩

abbrev nD : Nat := 1
abbrev τ : Topo := Topo.v7x

variable {F : FTy → Type} [FloatOps F]
-- ==== Proof.Prog.lean ====
/-
  The two kernel bodies in structured form. `fastBody` and `naiveBody` are the printed bodies written with loops over the
  column classes, the chunks, the row tiles and the ten extraction rounds; `fast_eq` and `naive_eq` say that they are the
  printed bodies.
-/
module

public import proofs.«01_k».proof.Kernel
public import Idealize.ShloMosaic.Lib.Pipeline.Regions

@[expose] public section

noncomputable section

namespace Cert.Kernel.Body

open Idealize.ShloMosaic Idealize.SL.Sem Cert.Kernel Cert.Kernel.Facts₀ Cert.Kernel.Facts

variable {F : FTy → Type} [FloatOps F] [Facts]

/-- A program of the kernel's effects. -/
abbrev PP (F : FTy → Type) [FloatOps F] := Prog (TpuEff nD τ sig (Elt F) Λ₀ .tc) PUnit

/-! ## Memory operations at a numbered place -/

/-- Chunk `t` of the staged columns lies inside the block. -/
theorem inbC (t : Fin 64) : ∀ a, (![128 * t.val, 0] : Fin 2 → Nat) a + S128x128.size a ≤ S8192x128.size a := by
  intro a; have := t.isLt; fin_cases a
  · change 128 * t.val + 128 ≤ 8192; omega
  · change 0 + 128 ≤ 128; omega
/-- Row tile `a` of rank `r` of class `p` lies inside the table of values, -/
theorem inbV (p : Fin 4) (r : Fin 3) (b : Fin 8) : ∀ a, (![p.val, r.val, 128 * b.val, 0] : Fin 4 → Nat) a + S1x1x128x128.size a ≤ S4x3x1024x128.size a := by
  intro a; have := p.isLt; have := r.isLt; have := b.isLt; fin_cases a
  · change p.val + 1 ≤ 4; omega
  · change r.val + 1 ≤ 3; omega
  · change 128 * b.val + 128 ≤ 1024; omega
  · change 0 + 128 ≤ 128; omega
/-- and of the table of chunk numbers. -/
theorem inbI (p : Fin 4) (r : Fin 2) (b : Fin 8) : ∀ a, (![p.val, r.val, 128 * b.val, 0] : Fin 4 → Nat) a + S1x1x128x128.size a ≤ S4x2x1024x128.size a := by
  intro a; have := p.isLt; have := r.isLt; have := b.isLt; fin_cases a
  · change p.val + 1 ≤ 4; omega
  · change r.val + 1 ≤ 2; omega
  · change 128 * b.val + 128 ≤ 1024; omega
  · change 0 + 128 ≤ 128; omega
/-- A whole rank of a class lies inside the table of values, -/
theorem inbVW (p : Fin 4) (r : Fin 3) : ∀ a, (![p.val, r.val, 0, 0] : Fin 4 → Nat) a + S1x1x1024x128.size a ≤ S4x3x1024x128.size a := by
  intro a; have := p.isLt; have := r.isLt; fin_cases a
  · change p.val + 1 ≤ 4; omega
  · change r.val + 1 ≤ 3; omega
  · change 0 + 1024 ≤ 1024; omega
  · change 0 + 128 ≤ 128; omega
/-- and of the table of chunk numbers. -/
theorem inbIW (p : Fin 4) (r : Fin 2) : ∀ a, (![p.val, r.val, 0, 0] : Fin 4 → Nat) a + S1x1x1024x128.size a ≤ S4x2x1024x128.size a := by
  intro a; have := p.isLt; have := r.isLt; fin_cases a
  · change p.val + 1 ≤ 4; omega
  · change r.val + 1 ≤ 2; omega
  · change 0 + 1024 ≤ 1024; omega
  · change 0 + 128 ≤ 128; omega
/-- A tile of 128 rows can be sliced out of 1024. -/
theorem slT (b : Fin 8) : S1024x128.Slices ![128 * b.val, 0] S128x128 := by
  refine ⟨rfl, fun a => ?_⟩
  have := b.isLt; fin_cases a
  · change 128 * b.val + 128 ≤ 1024; omega
  · change 0 + 128 ≤ 128; omega

/-- The rectangle of a chunk of the staged columns, -/
abbrev rC (t : Fin 64) : Rect S8192x128 := Rect.unit (s := S8192x128) ![128 * t.val, 0] S128x128.size (inbC t)
/-- of a tile of the table of values, -/
abbrev rV (p : Fin 4) (r : Fin 3) (b : Fin 8) : Rect S4x3x1024x128 := Rect.unit (s := S4x3x1024x128) ![p.val, r.val, 128 * b.val, 0] S1x1x128x128.size (inbV p r b)
/-- of a tile of the table of chunk numbers, -/
abbrev rI (p : Fin 4) (r : Fin 2) (b : Fin 8) : Rect S4x2x1024x128 := Rect.unit (s := S4x2x1024x128) ![p.val, r.val, 128 * b.val, 0] S1x1x128x128.size (inbI p r b)
/-- of a whole rank of the table of values, -/
abbrev rVW (p : Fin 4) (r : Fin 3) : Rect S4x3x1024x128 := Rect.unit (s := S4x3x1024x128) ![p.val, r.val, 0, 0] S1x1x1024x128.size (inbVW p r)
/-- of a whole rank of the table of chunk numbers. -/
abbrev rIW (p : Fin 4) (r : Fin 2) : Rect S4x2x1024x128 := Rect.unit (s := S4x2x1024x128) ![p.val, r.val, 0, 0] S1x1x1024x128.size (inbIW p r)

/-! ## One extraction round -/

section Pull

/-- 1024 rows of `n` lanes. -/
abbrev Sw (n : Nat) : Shape := ⟨2, ![1024, n]⟩

variable (w : Nat) (hr : (Sw w).Reduces [1] S1024) (hb : S1024x1.Broadcasts (Sw w))

/-- The word that stands below every score. -/
abbrev negW : F .f32 := Scalar.ofBits .f32 0xFF61B1E6#32

/-- The largest entry of each row, -/
def mx (av : FVec F (Sw w) .f32) : FVec F S1024x1 .f32 :=
  shapeCast S1024x1 (multiReduction .maximumf [1] S1024 av 0xFF800000#32 hr (.inl rfl) rfl) shapeCasts_S1024_S1024x1
/-- where a row takes it, -/
def eqm (av : FVec F (Sw w) .f32) : IVec (Sw w) 1 := cmpf .oeq av (broadcastTo (Sw w) (mx w hr av) hb)
/-- the least index at which it does, -/
def gx (av : FVec F (Sw w) .f32) (ag : IVec (Sw w) 32) : IVec S1024x1 32 :=
  shapeCast S1024x1 (multiReductionI .minsi [1] S1024 (select (eqm w hr hb av) ag (broadcast (Sw w) 2147483647#32)) 2147483647#32 hr rfl) shapeCasts_S1024_S1024x1
/-- and the rows with that entry put below every score. -/
def avStep (av : FVec F (Sw w) .f32) (ag : IVec (Sw w) 32) : FVec F (Sw w) .f32 :=
  select (andi (eqm w hr hb av) (cmpi .eq ag (broadcastTo (Sw w) (gx w hr hb av ag) hb))) (broadcast (Sw w) negW) av
/-- A value put in lane `s` of every row. -/
def cvStep (lane : IVec S1024x128 32) (s : BitVec 32) (m : FVec F S1024x1 .f32) (cv : FVec F S1024x128 .f32) : FVec F S1024x128 .f32 :=
  select (cmpi .eq lane (broadcast S1024x128 s)) (broadcastTo S1024x128 (shapeCast S1024x1 m shapeCasts_S1024x1_S1024x1) broadcasts_S1024x1_S1024x128) cv
/-- An index put in lane `s` of every row. -/
def ciStep (lane : IVec S1024x128 32) (s : BitVec 32) (g : IVec S1024x1 32) (ci : IVec S1024x128 32) : IVec S1024x128 32 :=
  select (cmpi .eq lane (broadcast S1024x128 s)) (broadcastTo S1024x128 (shapeCast S1024x1 g shapeCasts_S1024x1_S1024x1) broadcasts_S1024x1_S1024x128) ci

/-- `n` rounds from lane `s` on; the continuation also takes the value of the last round. -/
def pullsK (lane : IVec S1024x128 32) (ag : IVec (Sw w) 32) : (n : Nat) → (s : Nat) → FVec F (Sw w) .f32 → FVec F S1024x128 .f32 → IVec S1024x128 32 →
    FVec F S1024x1 .f32 → (FVec F S1024x128 .f32 → IVec S1024x128 32 → FVec F S1024x1 .f32 → PP F) → PP F
  | 0, _, _, cv, ci, m, k => k cv ci m
  | n + 1, s, av, cv, ci, _, k =>
    pullsK lane ag n (s + 1) (avStep w hr hb av ag) (cvStep lane (BitVec.ofNat 32 s) (mx w hr av) cv)
      (ciStep lane (BitVec.ofNat 32 s) (gx w hr hb av ag) ci) (mx w hr av) k

end Pull

/-! ## The fast body -/

/-- The number of chunk `t` of this block among all chunks. -/
def gW (j : BitVec 32) (t : Fin 64) : BitVec 32 := Scalar.addi (Scalar.muli j 64#32) (BitVec.ofNat 32 t.val)

/-- The lane number of every element. -/
abbrev lane : IVec S1024x128 32 := iota .tc S1024x128 32 [1] iota_S1024x128_d1_w32

/-- The scores against one chunk, columns past the last put below every score. -/
def panelV (j : BitVec 32) (qn : FVec F S1024x128 .f32) (t : Fin 64) (cnc : FVec F S128x128 .f32) : FVec F S1024x128 .f32 :=
  select (cmpi .slt (addi (broadcast S1024x128 (Scalar.muli (gW j t) 128#32)) lane) (broadcast S1024x128 100000#32))
    (matmul dot_S1024x128_S128x128_S1024x128_1_1_0_0_n_n none qn (shapeCast S128x128 cnc shapeCasts_S128x128_S128x128) (constant S1024x128 .f32 0x00000000#32))
    (broadcast S1024x128 negW)

/-- The `n` chunks of a class from the `u`-th on. -/
def classFrom (p : Fin 4) : (n u : Nat) → (h : n + u ≤ 16) → List (Fin 64)
  | 0, _, _ => []
  | n + 1, u, h => ⟨p.val + 4 * u, by omega⟩ :: classFrom p n (u + 1) (by omega)

/-- Two binds after a conditional, moved into its branches. -/
theorem dite_bind2 {α β γ : Type} {c : Prop} {d : Decidable c} (t : c → Prog (TpuEff nD τ sig (Elt F) Λ₀ .tc) α) (e : ¬ c → Prog (TpuEff nD τ sig (Elt F) Λ₀ .tc) α)
    (g : α → Prog (TpuEff nD τ sig (Elt F) Λ₀ .tc) β) (h : β → Prog (TpuEff nD τ sig (Elt F) Λ₀ .tc) γ) :
    ((@dite _ c d t e).bind g).bind h = @dite _ c d (fun x => ((t x).bind g).bind h) (fun x => ((e x).bind g).bind h) := by
  cases d <;> rfl

section Fast

variable (arg1 : Memref sig .tc .vmem S1024x128 .f32) (arg2 : Memref sig .tc .vmem S8192x128 .f32)
  (arg3 : Memref sig .tc .vmem S1024x10 .f32) (arg4 : Memref sig .tc .vmem S1024x10 .i32) (arg5 : Memref sig .tc .vmem S1024x128 .i32)
  (arg6 : Memref sig .tc .vmem S4x3x1024x128 .f32) (arg7 : Memref sig .tc .vmem S4x2x1024x128 .i32)

/-- A chunk loaded. -/
abbrev ldC (t : Fin 64) (k : ((rC t).shape.Idx → Elt F .f32) → PP F) : PP F :=
  .op (.load arg2 (rC t).toLoadRect (View.loadsAt_vmem h_S128x128)) k

/-- The chunks `ts` loaded and scored. -/
def panelsK (j : BitVec 32) (qn : FVec F S1024x128 .f32) : List (Fin 64) → (List (BitVec 32 × FVec F S1024x128 .f32) → PP F) → PP F
  | [], k => k []
  | t :: ts, k => ldC arg2 t fun c =>
      panelsK j qn ts fun l => k ((gW j t, panelV j qn t c) :: l)

/-- The panels inserted one after another into the three best. -/
def insK (b : Fin 8) : List (BitVec 32 × FVec F S1024x128 .f32) → (t1 t2 t3 : FVec F S128x128 .f32) → (i1 i2 : IVec S128x128 32) →
    (FVec F S128x128 .f32 → FVec F S128x128 .f32 → FVec F S128x128 .f32 → IVec S128x128 32 → IVec S128x128 32 → PP F) → PP F
  | [], t1, t2, t3, i1, i2, k => k t1 t2 t3 i1 i2
  | (g, vf) :: l, t1, t2, t3, i1, i2, k =>
    let v : FVec F S128x128 .f32 := extractStridedSlice S128x128 ![128 * b.val, 0] vf (slT b)
    let gi : IVec S128x128 32 := broadcast S128x128 g
    insK b l (select (cmpf .ogt v t1) v t1)
      (select (cmpf .ogt v t1) t1 (select (cmpf .ogt v t2) v t2))
      (select (cmpf .ogt v t2) t2 (select (cmpf .ogt v t3) v t3))
      (select (cmpf .ogt v t1) gi i1)
      (select (cmpf .ogt v t1) i1 (select (cmpf .ogt v t2) gi i2)) k

/-- A tile of values stored (the program reads it first and drops what it read), -/
def putV (p : Fin 4) (r : Fin 3) (b : Fin 8) (x : FVec F S128x128 .f32) (k : PP F) : PP F :=
  .op (.load arg6 (rV p r b).toLoadRect (View.loadsAt_vmem h_S1x1x128x128)) fun _ =>
  .op (.store arg6 (rV p r b) (shapeCast S1x1x128x128 x shapeCasts_S128x128_S1x1x128x128) Finset.univ (View.stores_vmem_bits_univ h_S1x1x128x128 rfl) (.inl rfl)) fun _ => k
/-- and one of chunk numbers. -/
def putI (p : Fin 4) (r : Fin 2) (b : Fin 8) (x : IVec S128x128 32) (k : PP F) : PP F :=
  .op (.load arg7 (rI p r b).toLoadRect (View.loadsAt_vmem h_S1x1x128x128)) fun _ =>
  .op (.store arg7 (rI p r b) (shapeCast S1x1x128x128 x shapeCasts_S128x128_S1x1x128x128) Finset.univ (View.stores_vmem_bits_univ h_S1x1x128x128 rfl) (.inl rfl)) fun _ => k

/-- One tile of one class: its three best read, the panels inserted, and written back. -/
def tileK (p : Fin 4) (b : Fin 8) (l : List (BitVec 32 × FVec F S1024x128 .f32)) (k : PP F) : PP F :=
  .op (.load arg6 (rV p 0 b).toLoadRect (View.loadsAt_vmem h_S1x1x128x128)) fun x1 =>
  .op (.load arg6 (rV p 1 b).toLoadRect (View.loadsAt_vmem h_S1x1x128x128)) fun x2 =>
  .op (.load arg6 (rV p 2 b).toLoadRect (View.loadsAt_vmem h_S1x1x128x128)) fun x3 =>
  .op (.load arg7 (rI p 0 b).toLoadRect (View.loadsAt_vmem h_S1x1x128x128)) fun y1 =>
  .op (.load arg7 (rI p 1 b).toLoadRect (View.loadsAt_vmem h_S1x1x128x128)) fun y2 =>
  insK b l (shapeCast S128x128 x1 shapeCasts_S1x1x128x128_S128x128) (shapeCast S128x128 x2 shapeCasts_S1x1x128x128_S128x128)
    (shapeCast S128x128 x3 shapeCasts_S1x1x128x128_S128x128) (shapeCast S128x128 y1 shapeCasts_S1x1x128x128_S128x128)
    (shapeCast S128x128 y2 shapeCasts_S1x1x128x128_S128x128) fun t1 t2 t3 i1 i2 =>
  putV arg6 p 0 b t1 <| putV arg6 p 1 b t2 <| putV arg6 p 2 b t3 <| putI arg7 p 0 b i1 <| putI arg7 p 1 b i2 k

/-- The `n` tiles of a class from the `b`-th on. -/
def tilesK (p : Fin 4) (l : List (BitVec 32 × FVec F S1024x128 .f32)) : (n b : Nat) → (h : n + b ≤ 8) → PP F → PP F
  | 0, _, _, k => k
  | n + 1, b, h, k => tileK arg6 arg7 p ⟨b, by omega⟩ l (tilesK p l n (b + 1) (by omega) k)

/-- One class: its panels, then its eight tiles. -/
def classK (j : BitVec 32) (qn : FVec F S1024x128 .f32) (p : Fin 4) (k : PP F) : PP F :=
  panelsK arg2 j qn (classFrom p 16 0 (by decide)) fun l => tilesK arg6 arg7 p l 8 0 (by decide) k

/-- Both tables at their first contents. -/
def initK (k : PP F) : PP F :=
  .op (.load arg6 (Rect.unit (s := S4x3x1024x128) ![0, 0, 0, 0] S4x3x1024x128.size inb_S4x3x1024x128_S4x3x1024x128_0_0_0_0).toLoadRect (View.loadsAt_vmem h_S4x3x1024x128)) fun _ =>
  .op (.store arg6 (Rect.unit (s := S4x3x1024x128) ![0, 0, 0, 0] S4x3x1024x128.size inb_S4x3x1024x128_S4x3x1024x128_0_0_0_0)
    (shapeCast S4x3x1024x128 (broadcast S4x3x1024x128 negW) shapeCasts_S4x3x1024x128_S4x3x1024x128) Finset.univ (View.stores_vmem_bits_univ h_S4x3x1024x128 rfl) (.inl rfl)) fun _ =>
  .op (.load arg7 (Rect.unit (s := S4x2x1024x128) ![0, 0, 0, 0] S4x2x1024x128.size inb_S4x2x1024x128_S4x2x1024x128_0_0_0_0).toLoadRect (View.loadsAt_vmem h_S4x2x1024x128)) fun _ =>
  .op (.store arg7 (Rect.unit (s := S4x2x1024x128) ![0, 0, 0, 0] S4x2x1024x128.size inb_S4x2x1024x128_S4x2x1024x128_0_0_0_0)
    (shapeCast S4x2x1024x128 (broadcast S4x2x1024x128 0#32 : IVec S4x2x1024x128 32) shapeCasts_S4x2x1024x128_S4x2x1024x128) Finset.univ (View.stores_vmem_bits_univ h_S4x2x1024x128 rfl) (.inl rfl)) fun _ => k

/-- The eight tables of ranks one and two in the order they are read: class by class, the better rank first. -/
def tabs : List (Fin 4 × Fin 2) := [(0, 0), (0, 1), (1, 0), (1, 1), (2, 0), (2, 1), (3, 0), (3, 1)]

/-- Ten rounds on each of the tables `l`, the first of them filling lanes `s` on. -/
def candK : List (Fin 4 × Fin 2) → Nat → FVec F S1024x128 .f32 → IVec S1024x128 32 → (FVec F S1024x128 .f32 → IVec S1024x128 32 → PP F) → PP F
  | [], _, cv, ci, k => k cv ci
  | (p, r) :: l, s, cv, ci, k =>
    .op (.load arg6 (rVW p r.castSucc).toLoadRect (View.loadsAt_vmem h_S1x1x1024x128)) fun x =>
    .op (.load arg7 (rIW p r).toLoadRect (View.loadsAt_vmem h_S1x1x1024x128)) fun y =>
    pullsK 128 reduces_S1024x128_S1024 broadcasts_S1024x1_S1024x128 lane
      (addi (muli (shapeCast S1024x128 y shapeCasts_S1x1x1024x128_S1024x128) (broadcast S1024x128 128#32)) lane) 10 s
      (shapeCast S1024x128 x shapeCasts_S1x1x1024x128_S1024x128) cv ci (mx 128 reduces_S1024x128_S1024 cv) fun cv' ci' _ =>
    candK l (s + 10) cv' ci' k

/-- The flags of the classes `l` joined to `fl`. -/
def flagK (m : FVec F S1024x1 .f32) : List (Fin 4) → IVec S1024x128 32 → (IVec S1024x128 32 → PP F) → PP F
  | [], fl, k => k fl
  | p :: l, fl, k => .op (.load arg6 (rVW p 2).toLoadRect (View.loadsAt_vmem h_S1x1x1024x128)) fun x =>
      flagK m l (ori fl (extui 32 (cmpf .oge (shapeCast S1024x128 x shapeCasts_S1x1x1024x128_S1024x128) (broadcastTo S1024x128 m broadcasts_S1024x1_S1024x128)) natLt_1_32)) k

/-- What the last point does. -/
def finK : PP F :=
  candK arg6 arg7 tabs 0 (broadcast S1024x128 negW) (broadcast S1024x128 0#32) fun cv ci =>
  pullsK 128 reduces_S1024x128_S1024 broadcasts_S1024x1_S1024x128 lane ci 10 0 cv (broadcast S1024x128 (Scalar.ofBits .f32 0x00000000#32)) (broadcast S1024x128 0#32)
    (mx 128 reduces_S1024x128_S1024 cv) fun ov oi m =>
  .op (.load arg3 (Rect.unit (s := S1024x10) ![0, 0] S1024x10.size inb_S1024x10_S1024x10_0_0).toLoadRect (View.loadsAt_vmem h_S1024x10)) fun _ =>
  .op (.store arg3 (Rect.unit (s := S1024x10) ![0, 0] S1024x10.size inb_S1024x10_S1024x10_0_0) (extractStridedSlice S1024x10 ![0, 0] ov slices_S1024x128_o0_0_S1024x10) Finset.univ (View.stores_vmem_bits_univ h_S1024x10 rfl) (.inl rfl)) fun _ =>
  .op (.load arg4 (Rect.unit (s := S1024x10) ![0, 0] S1024x10.size inb_S1024x10_S1024x10_0_0).toLoadRect (View.loadsAt_vmem h_S1024x10)) fun _ =>
  .op (.store arg4 (Rect.unit (s := S1024x10) ![0, 0] S1024x10.size inb_S1024x10_S1024x10_0_0) (extractStridedSlice S1024x10 ![0, 0] oi slices_S1024x128_o0_0_S1024x10) Finset.univ (View.stores_vmem_bits_univ h_S1024x10 rfl) (.inl rfl)) fun _ =>
  flagK arg6 m [0, 1, 2, 3] (broadcast S1024x128 0#32) fun fl =>
  .op (.load arg5 (Rect.unit (s := S1024x128) ![0, 0] S1024x128.size inb_S1024x128_S1024x128_0_0).toLoadRect (View.loadsAt_vmem h_S1024x128)) fun _ =>
  .op (.store arg5 (Rect.unit (s := S1024x128) ![0, 0] S1024x128.size inb_S1024x128_S1024x128_0_0) fl Finset.univ (View.stores_vmem_bits_univ h_S1024x128 rfl) (.inl rfl)) fun _ =>
  .ret ⟨⟩

/-- The condition on which the first point's part is run, of the point's word. -/
def isFirst (j : BitVec 32) : BitVec 1 := Scalar.cmpi .ne (Scalar.extui (Scalar.cmpi .eq j 0#32) : BitVec 32) 0#32

/-- The body after the first point's part. -/
def mainK (i : grid0.Coords) : PP F :=
  .op (.load arg1 (Rect.unit (s := S1024x128) ![0, 0] S1024x128.size inb_S1024x128_S1024x128_0_0).toLoadRect (View.loadsAt_vmem h_S1024x128)) fun q =>
    classK arg2 arg6 arg7 (BitVec.ofNat 32 (i 0).val) (shapeCast S1024x128 q shapeCasts_S1024x128_S1024x128) 0 <|
    classK arg2 arg6 arg7 (BitVec.ofNat 32 (i 0).val) (shapeCast S1024x128 q shapeCasts_S1024x128_S1024x128) 1 <|
    classK arg2 arg6 arg7 (BitVec.ofNat 32 (i 0).val) (shapeCast S1024x128 q shapeCasts_S1024x128_S1024x128) 2 <|
    classK arg2 arg6 arg7 (BitVec.ofNat 32 (i 0).val) (shapeCast S1024x128 q shapeCasts_S1024x128_S1024x128) 3 <|
    if _h : k0_cond2 i = 1#1 then finK arg3 arg4 arg5 arg6 arg7 else .ret ⟨⟩

/-- The body at one point. -/
def fastBody (i : grid0.Coords) : PP F :=
  if _h : isFirst (BitVec.ofNat 32 (i 0).val) = 1#1 then initK arg6 arg7 (mainK arg1 arg2 arg3 arg4 arg5 arg6 arg7 i)
  else mainK arg1 arg2 arg3 arg4 arg5 arg6 arg7 i

/-- The printed fast body is the structured one. -/
theorem fast_eq (i : grid0.Coords) (h1 : arg1.IsWhole) (h2 : arg2.IsWhole) (h3 : arg3.IsWhole) (h4 : arg4.IsWhole) (h5 : arg5.IsWhole) (h6 : arg6.IsWhole) (h7 : arg7.IsWhole) :
    cc0__fast_body (F := F) i arg1 h1 arg2 h2 arg3 h3 arg4 h4 arg5 h5 arg6 h6 arg7 h7 = fastBody arg1 arg2 arg3 arg4 arg5 arg6 arg7 i := by
  unfold cc0__fast_body k0_part216 k0_part47
  refine Eq.trans (dite_bind2 _ _ _ _) ?_
  chain_rfl

end Fast

/-! ## The plain body -/

section Naive

variable (arg1 : Memref sig .tc .vmem S1024x128 .f32) (arg2 : Memref sig .tc .vmem S8192x128 .f32)
  (arg3 : Memref sig .tc .vmem S1024x128 .f32) (arg4 : Memref sig .tc .vmem S1024x128 .i32)
  (arg5 : Memref sig .tc .vmem S1024x128 .f32) (arg6 : Memref sig .tc .vmem S1024x128 .i32)

/-- The rectangle of a whole table of 1024 rows of 128 lanes. -/
abbrev rT : Rect S1024x128 := Rect.unit (s := S1024x128) ![0, 0] S1024x128.size inb_S1024x128_S1024x128_0_0

/-- A table of values loaded, -/
abbrev ldT (arg : Memref sig .tc .vmem S1024x128 .f32) (k : ((rT).shape.Idx → Elt F .f32) → PP F) : PP F := .op (.load arg rT.toLoadRect (View.loadsAt_vmem h_S1024x128)) k
/-- one of numbers, -/
abbrev ldTI (arg : Memref sig .tc .vmem S1024x128 .i32) (k : ((rT).shape.Idx → Elt F .i32) → PP F) : PP F := .op (.load arg rT.toLoadRect (View.loadsAt_vmem h_S1024x128)) k
/-- and a block of columns. -/
abbrev ldB (k : ((Rect.unit (s := S8192x128) ![0, 0] S8192x128.size inb_S8192x128_S8192x128_0_0).shape.Idx → Elt F .f32) → PP F) : PP F :=
  .op (.load arg2 (Rect.unit (s := S8192x128) ![0, 0] S8192x128.size inb_S8192x128_S8192x128_0_0).toLoadRect (View.loadsAt_vmem h_S8192x128)) k

/-- Both carries at their first contents. -/
def initN (k : PP F) : PP F :=
  ldT arg5 fun _ =>
  .op (.store arg5 rT (shapeCast S1024x128 (broadcast S1024x128 negW) shapeCasts_S1024x128_S1024x128) Finset.univ (View.stores_vmem_bits_univ h_S1024x128 rfl) (.inl rfl)) fun _ =>
  ldTI arg6 fun _ =>
  .op (.store arg6 rT (shapeCast S1024x128 (broadcast S1024x128 0#32 : IVec S1024x128 32) shapeCasts_S1024x128_S1024x128) Finset.univ (View.stores_vmem_bits_univ h_S1024x128 rfl) (.inl rfl)) fun _ => k

/-- The column number of every score of a block, -/
def colN (j : BitVec 32) : IVec S1024x8192 32 := addi (broadcast S1024x8192 (Scalar.muli j 8192#32)) (iota .tc S1024x8192 32 [1] iota_S1024x8192_d1_w32)
/-- and the scores against a block, columns past the last put below every score. -/
def scoreN (j : BitVec 32) (q : FVec F S1024x128 .f32) (c : FVec F S8192x128 .f32) : FVec F S1024x8192 .f32 :=
  select (cmpi .slt (colN j) (broadcast S1024x8192 100000#32))
    (matmul dot_S1024x128_S8192x128_S1024x8192_1_1_0_0_n_n none (shapeCast S1024x128 q shapeCasts_S1024x128_S1024x128)
      (shapeCast S8192x128 c shapeCasts_S8192x128_S8192x128) (constant S1024x8192 .f32 0x00000000#32))
    (broadcast S1024x8192 negW)

/-- Two tables side by side. -/
def cat {α : Type} (x y : S1024x128.Idx → α) : (Sw 256).Idx → α :=
  concatenate S1024x256 1 [⟨S1024x128, x⟩, ⟨S1024x128, y⟩] concatenates_S1024x128_S1024x128_S1024x256_d1

/-- The carries copied out. -/
def finN : PP F :=
  ldT arg5 fun x =>
  ldT arg3 fun _ =>
  .op (.store arg3 rT x Finset.univ (View.stores_vmem_bits_univ h_S1024x128 rfl) (.inl rfl)) fun _ =>
  ldTI arg6 fun y =>
  ldTI arg4 fun _ =>
  .op (.store arg4 rT y Finset.univ (View.stores_vmem_bits_univ h_S1024x128 rfl) (.inl rfl)) fun _ => .ret ⟨⟩

/-- The body after the first point's part. -/
def mainN (i : grid1.Coords) : PP F :=
  ldT arg1 fun q =>
  ldB arg2 fun c =>
  pullsK 8192 reduces_S1024x8192_S1024 broadcasts_S1024x1_S1024x8192 lane (colN (BitVec.ofNat 32 (i 0).val)) 10 0 (scoreN (BitVec.ofNat 32 (i 0).val) q c)
    (broadcast S1024x128 negW) (broadcast S1024x128 0#32) (mx 128 reduces_S1024x128_S1024 (broadcast S1024x128 negW)) fun bv bi _ =>
  ldT arg5 fun cv =>
  ldTI arg6 fun ci =>
  pullsK 256 reduces_S1024x256_S1024 broadcasts_S1024x1_S1024x256 lane (cat ci bi) 10 0 (cat cv bv)
    (broadcast S1024x128 negW) (broadcast S1024x128 0#32) (mx 128 reduces_S1024x128_S1024 (broadcast S1024x128 negW)) fun nv ni _ =>
  ldT arg5 fun _ =>
  .op (.store arg5 rT (shapeCast S1024x128 nv shapeCasts_S1024x128_S1024x128) Finset.univ (View.stores_vmem_bits_univ h_S1024x128 rfl) (.inl rfl)) fun _ =>
  ldTI arg6 fun _ =>
  .op (.store arg6 rT (shapeCast S1024x128 ni shapeCasts_S1024x128_S1024x128) Finset.univ (View.stores_vmem_bits_univ h_S1024x128 rfl) (.inl rfl)) fun _ =>
  if _h : k1_cond2 i = 1#1 then finN arg3 arg4 arg5 arg6 else .ret ⟨⟩

/-- The body at one point. -/
def naiveBody (i : grid1.Coords) : PP F :=
  if _h : isFirst (BitVec.ofNat 32 (i 0).val) = 1#1 then initN arg5 arg6 (mainN arg1 arg2 arg3 arg4 arg5 arg6 i)
  else mainN arg1 arg2 arg3 arg4 arg5 arg6 i

/-- A bind after a conditional, moved into its branches. -/
theorem dite_bind1 {α β : Type} {c : Prop} {d : Decidable c} (t : c → Prog (TpuEff nD τ sig (Elt F) Λ₀ .tc) α) (e : ¬ c → Prog (TpuEff nD τ sig (Elt F) Λ₀ .tc) α)
    (g : α → Prog (TpuEff nD τ sig (Elt F) Λ₀ .tc) β) :
    (@dite _ c d t e).bind g = @dite _ c d (fun x => (t x).bind g) (fun x => (e x).bind g) := by
  cases d <;> rfl

/-- The printed plain body is the structured one. -/
theorem naive_eq (i : grid1.Coords) (h1 : arg1.IsWhole) (h2 : arg2.IsWhole) (h3 : arg3.IsWhole) (h4 : arg4.IsWhole) (h5 : arg5.IsWhole) (h6 : arg6.IsWhole) :
    cc1__naive_body (F := F) i arg1 h1 arg2 h2 arg3 h3 arg4 h4 arg5 h5 arg6 h6 = naiveBody arg1 arg2 arg3 arg4 arg5 arg6 i := by
  unfold cc1__naive_body k1_part1
  refine Eq.trans (dite_bind1 _ _ _) ?_
  chain_rfl

end Naive

end Cert.Kernel.Body

end
-- ==== Proof.Step.lean ====
/-
  One memory operation of a body, on a memref owned whole: a load continues at the part of the contents it reads, a store
  at the contents with that part replaced.
-/
module

public import proofs.«01_k».proof.Proof.Prog
public import Idealize.ShloMosaic.Lib.Tactic
public import Idealize.ShloMosaic.Lib.Pipeline.Kit

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Facts₀ Cert.Kernel.Facts

/-- The resource algebra: the pipelines' staging cells twice, once for the region every run enters and once for the region
    a branch enters. -/
abbrev UU (nD : Nat) (τ : Topo) : Type := UR sig nD τ × UR sig nD τ

variable {F : FTy → Type} [FloatOps F] [Facts]

local notation "𝕄" => MT nD τ sig Unit (Elt F) ℕ (UU nD τ) ℕ

/-- The weakest precondition of a body's program on core `c`. -/
abbrev wpB (c : Dev nD) (p : PP F) (K : PUnit → sProp 𝕄) : sProp 𝕄 :=
  wp frame (wpE (defs₀ (F := F)) Variants.none (c : Thread nD τ) none) Set.univ p K

/-- A memref owned whole at contents `X`. -/
abbrev own (c : Dev nD) {sp : Space} {s : Shape} {e : EltTy} (m : Memref sig .tc sp s e) (X : s.Idx → Elt F e) : sProp 𝕄 :=
  owns (c : Thread nD τ) m fullShare X

/-- The part of contents under a rectangle. -/
abbrev get {s : Shape} {α : Type} (r : Rect s) (X : s.Idx → α) : r.shape.Idx → α := fun i => X (r.emb i)

variable (c : Dev nD) {sp : CoreSpace} {s : Shape} {e : EltTy}

/-- A load reads the part under its rectangle. -/
theorem own_load (m : Memref sig .tc sp s e) (r : Rect s) (hl : m.view.LoadsAt r.toLoadRect) (k : (r.shape.Idx → Elt F e) → PP F)
    (X : s.Idx → Elt F e) (K : PUnit → sProp 𝕄) :
    iprop(own c m X ∗ (own c m X -∗ wpB c (k (get r X)) K)) ⊢ wpB c (.op (.load m r.toLoadRect hl) k) K := by
  unfold own owns
  iintro ⟨⟨%f, %hf, H⟩, Hk⟩
  iapply (wp_load Variants.none (c : Thread nD τ) none Set.univ (m := m) (r := r.toLoadRect) (hl := hl) (k := k) (S := m.view.set) (q := fullShare) (f := f)
    (m.view.setOn_subset_set _)) $$ H
  iintro H
  rw [show m.view.readAt (Elt F) r.toLoadRect f = get r X from by subst hf; rfl]
  iapply Hk
  iexists f; isplitr; · ipureintro; exact hf
  iexact H

/-- A store replaces it. -/
theorem own_store (m : Memref sig .tc sp s e) (r : Rect s) (w : r.shape.Idx → Elt F e) (hx : (m.access r).Stores Finset.univ)
    (hm : Finset.univ = Finset.univ ∨ ∀ a, r.stride a = 1) (k : PUnit → PP F)
    (X : s.Idx → Elt F e) (K : PUnit → sProp 𝕄) :
    iprop(own c m X ∗ (own c m (r.overlay X w) -∗ wpB c (k ⟨⟩) K)) ⊢ wpB c (.op (.store m r w Finset.univ hx hm) k) K := by
  unfold own owns
  iintro ⟨⟨%f, %hf, H⟩, Hk⟩
  iapply (wp_store Variants.none (c : Thread nD τ) none Set.univ (m := m) (r := r) (w := w) (Mk := Finset.univ) (hx := hx) (hm := hm) (k := k) (S := m.view.set) (f := f)
    (by
      rw [show (m.access r).setOn Finset.univ = (Finset.univ.map r.emb).map m.view.emb from (Finset.map_map _ _ _).symm]
      exact m.view.setOn_subset_set _)) $$ H
  iintro H
  iapply Hk
  iexists _; isplitr; swap; · iexact H
  ipureintro
  subst hf
  funext y
  by_cases hy : y ∈ r.set
  · obtain ⟨x, rfl⟩ := r.exists_idx_of_mem hy
    exact (View.read_slice_write_emb r f w (Finset.mem_univ x)).trans (Rect.overlay_emb r _ w x).symm
  · rw [Rect.overlay_of_not_mem _ _ _ hy]
    exact View.read_slice_write_of_not_mem r f w _ (by rw [Rect.map_emb_univ]; exact hy)

end Cert.Kernel.Body

end
-- ==== Proof.FastFn.lean ====
/-
  What the two bodies compute, as functions of the contents they start from, and that the structured bodies compute it.
-/
module

public import proofs.«01_k».proof.Proof.Step

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

variable {F : FTy → Type} [FloatOps F] [Facts]

local notation "𝕄" => MT nD τ sig Unit (Elt F) ℕ (UU nD τ) ℕ

/-! ## The extraction rounds -/

section Pull

variable (w : Nat) (hr : (Sw w).Reduces [1] S1024) (hb : S1024x1.Broadcasts (Sw w))

/-- What `n` rounds from lane `s` on make of the collected values and indices, and the value of the last round. -/
def pulls (lane : IVec S1024x128 32) (ag : IVec (Sw w) 32) : (n : Nat) → (s : Nat) → FVec F (Sw w) .f32 → FVec F S1024x128 .f32 → IVec S1024x128 32 →
    FVec F S1024x1 .f32 → FVec F S1024x128 .f32 × IVec S1024x128 32 × FVec F S1024x1 .f32
  | 0, _, _, cv, ci, m => (cv, ci, m)
  | n + 1, s, av, cv, ci, _ =>
    pulls lane ag n (s + 1) (avStep w hr hb av ag) (cvStep lane (BitVec.ofNat 32 s) (mx w hr av) cv)
      (ciStep lane (BitVec.ofNat 32 s) (gx w hr hb av ag) ci) (mx w hr av)

/-- The rounds of a body are that. -/
theorem pullsK_eq (lane : IVec S1024x128 32) (ag : IVec (Sw w) 32) (k : FVec F S1024x128 .f32 → IVec S1024x128 32 → FVec F S1024x1 .f32 → PP F) :
    ∀ (n s : Nat) (av : FVec F (Sw w) .f32) (cv : FVec F S1024x128 .f32) (ci : IVec S1024x128 32) (m : FVec F S1024x1 .f32),
      pullsK w hr hb lane ag n s av cv ci m k
        = k (pulls w hr hb lane ag n s av cv ci m).1 (pulls w hr hb lane ag n s av cv ci m).2.1 (pulls w hr hb lane ag n s av cv ci m).2.2
  | 0, _, _, _, _, _ => rfl
  | n + 1, s, av, cv, ci, m => by rw [pullsK, pulls]; exact pullsK_eq lane ag k n _ _ _ _ _

end Pull

/-! ## The fast body -/

/-- The table of values, -/
abbrev TV (F : FTy → Type) := S4x3x1024x128.Idx → Elt F .f32
/-- of chunk numbers. -/
abbrev TI (F : FTy → Type) := S4x2x1024x128.Idx → Elt F .i32
/-- A staged block of columns. -/
abbrev BC (F : FTy → Type) := S8192x128.Idx → Elt F .f32

/-- The panels of the chunks `ts` of a block. -/
def panels (j : BitVec 32) (qn : FVec F S1024x128 .f32) (B : BC F) (ts : List (Fin 64)) : List (BitVec 32 × FVec F S1024x128 .f32) :=
  ts.map fun t => (gW j t, panelV j qn t (get (rC t) B))

/-- Three best values of a tile and the chunk numbers of two. -/
structure Best (F : FTy → Type) where
  (t1 t2 t3 : FVec F S128x128 .f32)
  (i1 i2 : IVec S128x128 32)

/-- One panel inserted, -/
def ins1 (b : Fin 8) (g : BitVec 32) (vf : FVec F S1024x128 .f32) (B : Best F) : Best F :=
  let v : FVec F S128x128 .f32 := extractStridedSlice S128x128 ![128 * b.val, 0] vf (slT b)
  let gi : IVec S128x128 32 := broadcast S128x128 g
  ⟨select (cmpf .ogt v B.t1) v B.t1,
    select (cmpf .ogt v B.t1) B.t1 (select (cmpf .ogt v B.t2) v B.t2),
    select (cmpf .ogt v B.t2) B.t2 (select (cmpf .ogt v B.t3) v B.t3),
    select (cmpf .ogt v B.t1) gi B.i1,
    select (cmpf .ogt v B.t1) B.i1 (select (cmpf .ogt v B.t2) gi B.i2)⟩

/-- and all of a list. -/
def insL (b : Fin 8) (l : List (BitVec 32 × FVec F S1024x128 .f32)) (B : Best F) : Best F :=
  l.foldl (fun B x => ins1 b x.1 x.2 B) B

/-- The insertions of a body are that. -/
theorem insK_eq (b : Fin 8) (k : FVec F S128x128 .f32 → FVec F S128x128 .f32 → FVec F S128x128 .f32 → IVec S128x128 32 → IVec S128x128 32 → PP F) :
    ∀ (l : List (BitVec 32 × FVec F S1024x128 .f32)) (B : Best F),
      insK b l B.t1 B.t2 B.t3 B.i1 B.i2 k
        = k (insL b l B).t1 (insL b l B).t2 (insL b l B).t3 (insL b l B).i1 (insL b l B).i2
  | [], _ => rfl
  | x :: l, B => by
    rw [insK, insL, List.foldl_cons]
    exact insK_eq b k l (ins1 b x.1 x.2 B)

/-- The best of tile `b` of class `p` in the tables. -/
def bestOf (p : Fin 4) (b : Fin 8) (V : TV F) (I : TI F) : Best F :=
  ⟨shapeCast S128x128 (get (rV p 0 b) V) shapeCasts_S1x1x128x128_S128x128, shapeCast S128x128 (get (rV p 1 b) V) shapeCasts_S1x1x128x128_S128x128,
    shapeCast S128x128 (get (rV p 2 b) V) shapeCasts_S1x1x128x128_S128x128, shapeCast S128x128 (get (rI p 0 b) I) shapeCasts_S1x1x128x128_S128x128,
    shapeCast S128x128 (get (rI p 1 b) I) shapeCasts_S1x1x128x128_S128x128⟩

/-- A tile put in the table of values, -/
def setV (p : Fin 4) (r : Fin 3) (b : Fin 8) (x : FVec F S128x128 .f32) (V : TV F) : TV F :=
  (rV p r b).overlay V (shapeCast S1x1x128x128 x shapeCasts_S128x128_S1x1x128x128)
/-- of chunk numbers. -/
def setI (p : Fin 4) (r : Fin 2) (b : Fin 8) (x : IVec S128x128 32) (I : TI F) : TI F :=
  (rI p r b).overlay I (shapeCast S1x1x128x128 x shapeCasts_S128x128_S1x1x128x128)

/-- One tile of one class: the tables after it. -/
def tile (p : Fin 4) (l : List (BitVec 32 × FVec F S1024x128 .f32)) (b : Fin 8) (T : TV F × TI F) : TV F × TI F :=
  (setV p 2 b (insL b l (bestOf p b T.1 T.2)).t3 (setV p 1 b (insL b l (bestOf p b T.1 T.2)).t2 (setV p 0 b (insL b l (bestOf p b T.1 T.2)).t1 T.1)),
    setI p 1 b (insL b l (bestOf p b T.1 T.2)).i2 (setI p 0 b (insL b l (bestOf p b T.1 T.2)).i1 T.2))

theorem tile_fst (p : Fin 4) (l : List (BitVec 32 × FVec F S1024x128 .f32)) (b : Fin 8) (T : TV F × TI F) :
    (tile p l b T).1 = setV p 2 b (insL b l (bestOf p b T.1 T.2)).t3 (setV p 1 b (insL b l (bestOf p b T.1 T.2)).t2
      (setV p 0 b (insL b l (bestOf p b T.1 T.2)).t1 T.1)) := by unfold tile; dsimp only

theorem tile_snd (p : Fin 4) (l : List (BitVec 32 × FVec F S1024x128 .f32)) (b : Fin 8) (T : TV F × TI F) :
    (tile p l b T).2 = setI p 1 b (insL b l (bestOf p b T.1 T.2)).i2 (setI p 0 b (insL b l (bestOf p b T.1 T.2)).i1 T.2) := by unfold tile; dsimp only

/-- The `n` tiles from the `b`-th on. -/
def tiles (p : Fin 4) (l : List (BitVec 32 × FVec F S1024x128 .f32)) : (n b : Nat) → (h : n + b ≤ 8) → TV F × TI F → TV F × TI F
  | 0, _, _, T => T
  | n + 1, b, h, T => tiles p l n (b + 1) (by omega) (tile p l ⟨b, by omega⟩ T)

/-- One class. -/
def cls (j : BitVec 32) (qn : FVec F S1024x128 .f32) (B : BC F) (p : Fin 4) (T : TV F × TI F) : TV F × TI F :=
  tiles p (panels j qn B (classFrom p 16 0 (by decide))) 8 0 (by decide) T

/-- The tables' first contents. -/
def tab0 : TV F × TI F := (broadcast S4x3x1024x128 negW, broadcast S4x2x1024x128 (0#32 : BitVec 32))

/-- The tables after one block. -/
def fstep (j : BitVec 32) (qn : FVec F S1024x128 .f32) (B : BC F) (T : TV F × TI F) : TV F × TI F :=
  cls j qn B 3 (cls j qn B 2 (cls j qn B 1 (cls j qn B 0 T)))

/-- The candidates collected from the tables `l` on. -/
def cands (T : TV F × TI F) : List (Fin 4 × Fin 2) → Nat → FVec F S1024x128 .f32 → IVec S1024x128 32 → FVec F S1024x128 .f32 × IVec S1024x128 32
  | [], _, cv, ci => (cv, ci)
  | (p, r) :: l, s, cv, ci =>
    let P := pulls 128 reduces_S1024x128_S1024 broadcasts_S1024x1_S1024x128 lane
      (addi (muli (shapeCast S1024x128 (get (rIW p r) T.2) shapeCasts_S1x1x1024x128_S1024x128) (broadcast S1024x128 128#32)) lane) 10 s
      (shapeCast S1024x128 (get (rVW p r.castSucc) T.1) shapeCasts_S1x1x1024x128_S1024x128) cv ci (mx 128 reduces_S1024x128_S1024 cv)
    cands T l (s + 10) P.1 P.2.1

/-- The flags of the classes `l` joined. -/
def flags (T : TV F × TI F) (m : FVec F S1024x1 .f32) : List (Fin 4) → IVec S1024x128 32 → IVec S1024x128 32
  | [], fl => fl
  | p :: l, fl => flags T m l (ori fl (extui 32 (cmpf .oge (shapeCast S1024x128 (get (rVW p 2) T.1) shapeCasts_S1x1x1024x128_S1024x128)
      (broadcastTo S1024x128 m broadcasts_S1024x1_S1024x128)) natLt_1_32))

/-- All candidates, -/
def cand (T : TV F × TI F) : FVec F S1024x128 .f32 × IVec S1024x128 32 :=
  cands T tabs 0 (broadcast S1024x128 negW) (broadcast S1024x128 0#32)
/-- the ten best of them and the tenth value, -/
def best (T : TV F × TI F) : FVec F S1024x128 .f32 × IVec S1024x128 32 × FVec F S1024x1 .f32 :=
  pulls 128 reduces_S1024x128_S1024 broadcasts_S1024x1_S1024x128 lane (cand T).2 10 0 (cand T).1
    (broadcast S1024x128 (Scalar.ofBits .f32 0x00000000#32)) (broadcast S1024x128 0#32) (mx 128 reduces_S1024x128_S1024 (cand T).1)
/-- the values written out, -/
def outV (T : TV F × TI F) : FVec F S1024x10 .f32 := extractStridedSlice S1024x10 ![0, 0] (best T).1 slices_S1024x128_o0_0_S1024x10
/-- the indices, -/
def outI (T : TV F × TI F) : IVec S1024x10 32 := extractStridedSlice S1024x10 ![0, 0] (best T).2.1 slices_S1024x128_o0_0_S1024x10
/-- the flags. -/
def outF (T : TV F × TI F) : IVec S1024x128 32 := flags T (best T).2.2 [0, 1, 2, 3] (broadcast S1024x128 0#32)

section Wp

variable (c : Dev nD)
  (arg1 : Memref sig .tc .vmem S1024x128 .f32) (arg2 : Memref sig .tc .vmem S8192x128 .f32)
  (arg3 : Memref sig .tc .vmem S1024x10 .f32) (arg4 : Memref sig .tc .vmem S1024x10 .i32) (arg5 : Memref sig .tc .vmem S1024x128 .i32)
  (arg6 : Memref sig .tc .vmem S4x3x1024x128 .f32) (arg7 : Memref sig .tc .vmem S4x2x1024x128 .i32)

/-- The end of a body. -/
theorem wpB_ret (K : PUnit → sProp 𝕄) : K ⟨⟩ ⊢ wpB (F := F) c (.ret ⟨⟩) K := by
  unfold wpB
  rw [wp_ret]
  iintro H
  imodintro
  iexact H

/-- The chunks of a class loaded: the program goes on at their panels. -/
theorem wp_panels (K : PUnit → sProp 𝕄) (j : BitVec 32) (qn : FVec F S1024x128 .f32) (B : BC F) :
    ∀ (ts : List (Fin 64)) (k : List (BitVec 32 × FVec F S1024x128 .f32) → PP F),
      iprop(own c arg2 B ∗ (own c arg2 B -∗ wpB c (k (panels j qn B ts)) K)) ⊢ wpB c (panelsK arg2 j qn ts k) K
  | [], k => by
    iintro ⟨H, Hk⟩
    iapply Hk; iexact H
  | t :: ts, k => by
    iintro ⟨H, Hk⟩
    iapply (own_load c arg2 (rC t) _ _ B _)
    isplitl [H]; · iexact H
    iintro H
    iapply (wp_panels K j qn B ts fun l => k ((gW j t, panelV j qn t (get (rC t) B)) :: l))
    isplitl [H]; · iexact H
    iintro H
    iapply Hk; iexact H

/-- A tile stored in the table of values, -/
theorem wp_putV (K : PUnit → sProp 𝕄) (p : Fin 4) (r : Fin 3) (b : Fin 8) (x : FVec F S128x128 .f32) (k : PP F) (V : TV F) :
    iprop(own c arg6 V ∗ (own c arg6 (setV p r b x V) -∗ wpB c k K)) ⊢ wpB c (putV arg6 p r b x k) K := by
  iintro ⟨H, Hk⟩
  iapply (own_load c arg6 (rV p r b) _ _ V _)
  isplitl [H]; · iexact H
  iintro H
  iapply (own_store c arg6 (rV p r b) _ _ _ _ V _)
  isplitl [H]; · iexact H
  iexact Hk

/-- of chunk numbers. -/
theorem wp_putI (K : PUnit → sProp 𝕄) (p : Fin 4) (r : Fin 2) (b : Fin 8) (x : IVec S128x128 32) (k : PP F) (I : TI F) :
    iprop(own c arg7 I ∗ (own c arg7 (setI p r b x I) -∗ wpB c k K)) ⊢ wpB c (putI arg7 p r b x k) K := by
  iintro ⟨H, Hk⟩
  iapply (own_load c arg7 (rI p r b) _ _ I _)
  isplitl [H]; · iexact H
  iintro H
  iapply (own_store c arg7 (rI p r b) _ _ _ _ I _)
  isplitl [H]; · iexact H
  iexact Hk

/-- The insertions. -/
theorem wp_ins (K : PUnit → sProp 𝕄) (b : Fin 8) (l : List (BitVec 32 × FVec F S1024x128 .f32)) (B : Best F)
    (k : FVec F S128x128 .f32 → FVec F S128x128 .f32 → FVec F S128x128 .f32 → IVec S128x128 32 → IVec S128x128 32 → PP F) :
    wpB c (k (insL b l B).t1 (insL b l B).t2 (insL b l B).t3 (insL b l B).i1 (insL b l B).i2) K ⊢ wpB c (insK b l B.t1 B.t2 B.t3 B.i1 B.i2 k) K := by
  rw [insK_eq]

/-- One tile of one class. -/
theorem wp_tile (K : PUnit → sProp 𝕄) (p : Fin 4) (b : Fin 8) (l : List (BitVec 32 × FVec F S1024x128 .f32)) (k : PP F) (T : TV F × TI F) :
    iprop(own c arg6 T.1 ∗ own c arg7 T.2 ∗ (iprop(own c arg6 (tile p l b T).1 ∗ own c arg7 (tile p l b T).2) -∗ wpB c k K))
      ⊢ wpB c (tileK arg6 arg7 p b l k) K := by
  rw [tile_fst, tile_snd]
  iintro ⟨HV, HI, Hk⟩
  iapply (own_load c arg6 (rV p 0 b) _ _ T.1 _)
  isplitl [HV]; · iexact HV
  iintro HV
  iapply (own_load c arg6 (rV p 1 b) _ _ T.1 _)
  isplitl [HV]; · iexact HV
  iintro HV
  iapply (own_load c arg6 (rV p 2 b) _ _ T.1 _)
  isplitl [HV]; · iexact HV
  iintro HV
  iapply (own_load c arg7 (rI p 0 b) _ _ T.2 _)
  isplitl [HI]; · iexact HI
  iintro HI
  iapply (own_load c arg7 (rI p 1 b) _ _ T.2 _)
  isplitl [HI]; · iexact HI
  iintro HI
  iapply (wp_ins c K b l (bestOf p b T.1 T.2) _)
  iapply (wp_putV c arg6 K p 0 b _ _ _)
  isplitl [HV]; · iexact HV
  iintro HV
  iapply (wp_putV c arg6 K p 1 b _ _ _)
  isplitl [HV]; · iexact HV
  iintro HV
  iapply (wp_putV c arg6 K p 2 b _ _ _)
  isplitl [HV]; · iexact HV
  iintro HV
  iapply (wp_putI c arg7 K p 0 b _ _ _)
  isplitl [HI]; · iexact HI
  iintro HI
  iapply (wp_putI c arg7 K p 1 b _ _ _)
  isplitl [HI]; · iexact HI
  iintro HI
  iapply Hk
  isplitl [HV]; · iexact HV
  iexact HI

/-- The tiles of one class. -/
theorem wp_tiles (K : PUnit → sProp 𝕄) (p : Fin 4) (l : List (BitVec 32 × FVec F S1024x128 .f32)) (k : PP F) :
    ∀ (n b : Nat) (h : n + b ≤ 8) (T : TV F × TI F),
      iprop(own c arg6 T.1 ∗ own c arg7 T.2 ∗ (iprop(own c arg6 (tiles p l n b h T).1 ∗ own c arg7 (tiles p l n b h T).2) -∗ wpB c k K))
        ⊢ wpB c (tilesK arg6 arg7 p l n b h k) K
  | 0, _, _, T => by
    iintro ⟨HV, HI, Hk⟩
    iapply Hk
    isplitl [HV]; · iexact HV
    iexact HI
  | n + 1, b, h, T => by
    iintro ⟨HV, HI, Hk⟩
    iapply (wp_tile c arg6 arg7 K p _ l _ T)
    isplitl [HV]; · iexact HV
    isplitl [HI]; · iexact HI
    iintro ⟨HV, HI⟩
    iapply (wp_tiles K p l k n (b + 1) _ _)
    isplitl [HV]; · iexact HV
    isplitl [HI]; · iexact HI
    iexact Hk

/-- One class. -/
theorem wp_cls (K : PUnit → sProp 𝕄) (j : BitVec 32) (qn : FVec F S1024x128 .f32) (p : Fin 4) (k : PP F) (B : BC F) (T : TV F × TI F) :
    iprop(own c arg2 B ∗ own c arg6 T.1 ∗ own c arg7 T.2
        ∗ (iprop(own c arg2 B ∗ own c arg6 (cls j qn B p T).1 ∗ own c arg7 (cls j qn B p T).2) -∗ wpB c k K))
      ⊢ wpB c (classK arg2 arg6 arg7 j qn p k) K := by
  iintro ⟨HB, HV, HI, Hk⟩
  iapply (wp_panels c arg2 K j qn B _ _)
  isplitl [HB]; · iexact HB
  iintro HB
  iapply (wp_tiles c arg6 arg7 K p _ k 8 0 _ T)
  isplitl [HV]; · iexact HV
  isplitl [HI]; · iexact HI
  iintro ⟨HV, HI⟩
  iapply Hk
  isplitl [HB]; · iexact HB
  isplitl [HV]; · iexact HV
  iexact HI

/-- The candidates. -/
theorem wp_cands (K : PUnit → sProp 𝕄) (T : TV F × TI F) :
    ∀ (l : List (Fin 4 × Fin 2)) (s : Nat) (cv : FVec F S1024x128 .f32) (ci : IVec S1024x128 32)
      (k : FVec F S1024x128 .f32 → IVec S1024x128 32 → PP F),
      iprop(own c arg6 T.1 ∗ own c arg7 T.2 ∗ (iprop(own c arg6 T.1 ∗ own c arg7 T.2) -∗ wpB c (k (cands T l s cv ci).1 (cands T l s cv ci).2) K))
        ⊢ wpB c (candK arg6 arg7 l s cv ci k) K
  | [], s, cv, ci, k => by
    iintro ⟨HV, HI, Hk⟩
    iapply Hk
    isplitl [HV]; · iexact HV
    iexact HI
  | (p, r) :: l, s, cv, ci, k => by
    iintro ⟨HV, HI, Hk⟩
    iapply (own_load c arg6 (rVW p r.castSucc) _ _ T.1 _)
    isplitl [HV]; · iexact HV
    iintro HV
    iapply (own_load c arg7 (rIW p r) _ _ T.2 _)
    isplitl [HI]; · iexact HI
    iintro HI
    rw [pullsK_eq]
    iapply (wp_cands K T l _ _ _ k)
    isplitl [HV]; · iexact HV
    isplitl [HI]; · iexact HI
    iexact Hk

/-- The flags. -/
theorem wp_flags (K : PUnit → sProp 𝕄) (T : TV F × TI F) (m : FVec F S1024x1 .f32) (k : IVec S1024x128 32 → PP F) :
    ∀ (l : List (Fin 4)) (fl : IVec S1024x128 32),
      iprop(own c arg6 T.1 ∗ (own c arg6 T.1 -∗ wpB c (k (flags T m l fl)) K)) ⊢ wpB c (flagK arg6 m l fl k) K
  | [], fl => by
    iintro ⟨HV, Hk⟩
    iapply Hk; iexact HV
  | p :: l, fl => by
    iintro ⟨HV, Hk⟩
    iapply (own_load c arg6 (rVW p 2) _ _ T.1 _)
    isplitl [HV]; · iexact HV
    iintro HV
    iapply (wp_flags K T m k l _)
    isplitl [HV]; · iexact HV
    iexact Hk

/-- Writing over a whole block leaves what was written. -/
theorem overlay_full {s : Shape} {α : Type} (off : Fin s.rank → Nat) (h : ∀ a, off a + s.size a ≤ s.size a) (X w : s.Idx → α) :
    (Rect.unit off s.size h).overlay X w = w := by
  funext y
  have e : (Rect.unit off s.size h).emb y = y := by
    funext a
    apply Fin.ext
    have := h a
    rw [show (((Rect.unit off s.size h).emb y) a : Nat) = off a + 1 * (y a).val from rfl]
    omega
  have := Rect.overlay_emb (Rect.unit off s.size h) X w y
  rwa [e] at this

/-- Reading a whole block is reading its contents. -/
theorem get_full {s : Shape} {α : Type} (off : Fin s.rank → Nat) (h : ∀ a, off a + s.size a ≤ s.size a) (X : s.Idx → α) :
    get (Rect.unit off s.size h) X = X := by
  funext y
  have e : (Rect.unit off s.size h).emb y = y := by
    funext a
    apply Fin.ext
    have := h a
    rw [show (((Rect.unit off s.size h).emb y) a : Nat) = off a + 1 * (y a).val from rfl]
    omega
  exact congrArg X e

/-- A store over a whole memref. -/
theorem own_store_full (K : PUnit → sProp 𝕄) {sp : CoreSpace} {s : Shape} {e : EltTy} (m : Memref sig .tc sp s e) (off : Fin s.rank → Nat) (h : ∀ a, off a + s.size a ≤ s.size a)
    (w : s.Idx → Elt F e) (hx : (m.access (Rect.unit off s.size h)).Stores Finset.univ)
    (hm : Finset.univ = Finset.univ ∨ ∀ a, (Rect.unit off s.size h).stride a = 1) (k : PUnit → PP F) :
    iprop((∃ X, own c m X) ∗ (own c m w -∗ wpB c (k ⟨⟩) K)) ⊢ wpB c (.op (.store m (Rect.unit off s.size h) w Finset.univ hx hm) k) K := by
  iintro ⟨⟨%X, H⟩, Hk⟩
  iapply (own_store c m (Rect.unit off s.size h) w hx hm k X _)
  isplitl [H]; · iexact H
  rw [overlay_full]
  iexact Hk

/-- A load whose result is dropped. -/
theorem own_load_any (K : PUnit → sProp 𝕄) {sp : CoreSpace} {s : Shape} {e : EltTy} (m : Memref sig .tc sp s e) (r : Rect s) (hl : m.view.LoadsAt r.toLoadRect) (k : PP F) :
    iprop((∃ X, own c m X) ∗ ((∃ X, own c m X) -∗ wpB c k K)) ⊢ wpB c (.op (.load m r.toLoadRect hl) fun _ => k) K := by
  iintro ⟨⟨%X, H⟩, Hk⟩
  iapply (own_load c m r hl _ X _)
  isplitl [H]; · iexact H
  iintro H
  iapply Hk
  iexists X; iexact H

/-- The last point's part. -/
theorem wp_fin (K : PUnit → sProp 𝕄) (T : TV F × TI F) :
    iprop((∃ X, own c arg3 X) ∗ (∃ X, own c arg4 X) ∗ (∃ X, own c arg5 X) ∗ own c arg6 T.1 ∗ own c arg7 T.2
        ∗ (iprop(own c arg3 (outV T) ∗ own c arg4 (outI T) ∗ own c arg5 (outF T) ∗ own c arg6 T.1 ∗ own c arg7 T.2) -∗ K ⟨⟩))
      ⊢ wpB c (finK arg3 arg4 arg5 arg6 arg7) K := by
  iintro ⟨H3, H4, H5, HV, HI, Hk⟩
  iapply (wp_cands c arg6 arg7 K T tabs 0 _ _ _)
  isplitl [HV]; · iexact HV
  isplitl [HI]; · iexact HI
  iintro ⟨HV, HI⟩
  rw [pullsK_eq]
  iapply (own_load_any c K arg3 _ _ _)
  isplitl [H3]; · iexact H3
  iintro H3
  iapply (own_store_full c K arg3 _ _ _ _ _ _)
  isplitl [H3]; · iexact H3
  iintro H3
  iapply (own_load_any c K arg4 _ _ _)
  isplitl [H4]; · iexact H4
  iintro H4
  iapply (own_store_full c K arg4 _ _ _ _ _ _)
  isplitl [H4]; · iexact H4
  iintro H4
  iapply (wp_flags c arg6 K T _ _ _ _)
  isplitl [HV]; · iexact HV
  iintro HV
  iapply (own_load_any c K arg5 _ _ _)
  isplitl [H5]; · iexact H5
  iintro H5
  iapply (own_store_full c K arg5 _ _ _ _ _ _)
  isplitl [H5]; · iexact H5
  iintro H5
  iapply (wpB_ret c K)
  iapply Hk
  isplitl [H3]; · iexact H3
  isplitl [H4]; · iexact H4
  isplitl [H5]; · iexact H5
  isplitl [HV]; · iexact HV
  iexact HI

end Wp

end Cert.Kernel.Body

end
-- ==== Proof.BodyWp.lean ====
/-
  The two bodies at one point: what they leave, from the contents they start from.
-/
module

public import proofs.«01_k».proof.Proof.FastFn
public import Idealize.ShloMosaic.Lib.Pipeline.Value

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts

variable {F : FTy → Type} [FloatOps F] [Facts]

local notation "𝕄" => MT nD τ sig Unit (Elt F) ℕ (UU nD τ) ℕ

/-! ## The fast body -/

/-- The tables that a point starts its block from: the first contents at the first point, else what the last point left. -/
def start (j : BitVec 32) (T : TV F × TI F) : TV F × TI F := if isFirst j = 1#1 then tab0 else T

/-- The tables after a point's block `B`. -/
def fnext (i : grid0.Coords) (Q : S1024x128.Idx → Elt F .f32) (B : BC F) (T : TV F × TI F) : TV F × TI F :=
  fstep (BitVec.ofNat 32 (i 0).val) Q B (start (BitVec.ofNat 32 (i 0).val) T)

section Fast

variable (c : Dev nD)
  (arg1 : Memref sig .tc .vmem S1024x128 .f32) (arg2 : Memref sig .tc .vmem S8192x128 .f32)
  (arg3 : Memref sig .tc .vmem S1024x10 .f32) (arg4 : Memref sig .tc .vmem S1024x10 .i32) (arg5 : Memref sig .tc .vmem S1024x128 .i32)
  (arg6 : Memref sig .tc .vmem S4x3x1024x128 .f32) (arg7 : Memref sig .tc .vmem S4x2x1024x128 .i32)

/-- What the body leaves of the three results: at the last point what the tables give. -/
def leaves (i : grid0.Coords) (T : TV F × TI F) : sProp 𝕄 :=
  iprop(∃ X3 X4 X5, ⌜k0_cond2 i = 1#1 → X3 = outV T ∧ X4 = outI T ∧ X5 = outF T⌝ ∗ own c arg3 X3 ∗ own c arg4 X4 ∗ own c arg5 X5)

/-- A cast to the same shape changes nothing. -/
theorem castSelf {s : Shape} {α : Type} (h : s.ShapeCasts s) (x : s.Idx → α) : shapeCast s x h = x := shapeCast_self x h

/-- The body after the first point's part. -/
theorem wp_main (K : PUnit → sProp 𝕄) (i : grid0.Coords) (Q : S1024x128.Idx → Elt F .f32) (B : BC F) (T : TV F × TI F) :
    iprop(own c arg1 Q ∗ own c arg2 B ∗ (∃ X, own c arg3 X) ∗ (∃ X, own c arg4 X) ∗ (∃ X, own c arg5 X) ∗ own c arg6 T.1 ∗ own c arg7 T.2
        ∗ (iprop(own c arg1 Q ∗ own c arg2 B ∗ leaves c arg3 arg4 arg5 i (fstep (BitVec.ofNat 32 (i 0).val) Q B T)
            ∗ own c arg6 (fstep (BitVec.ofNat 32 (i 0).val) Q B T).1 ∗ own c arg7 (fstep (BitVec.ofNat 32 (i 0).val) Q B T).2) -∗ K ⟨⟩))
      ⊢ wpB c (mainK arg1 arg2 arg3 arg4 arg5 arg6 arg7 i) K := by
  iintro ⟨H1, H2, H3, H4, H5, H6, H7, Hk⟩
  unfold mainK
  iapply (own_load c arg1 _ _ _ Q K)
  isplitl [H1]; · iexact H1
  iintro H1
  rw [get_full, castSelf]
  iapply (wp_cls c arg2 arg6 arg7 K _ _ _ _ B T)
  isplitl [H2]; · iexact H2
  isplitl [H6]; · iexact H6
  isplitl [H7]; · iexact H7
  iintro ⟨H2, H6, H7⟩
  iapply (wp_cls c arg2 arg6 arg7 K _ _ _ _ B _)
  isplitl [H2]; · iexact H2
  isplitl [H6]; · iexact H6
  isplitl [H7]; · iexact H7
  iintro ⟨H2, H6, H7⟩
  iapply (wp_cls c arg2 arg6 arg7 K _ _ _ _ B _)
  isplitl [H2]; · iexact H2
  isplitl [H6]; · iexact H6
  isplitl [H7]; · iexact H7
  iintro ⟨H2, H6, H7⟩
  iapply (wp_cls c arg2 arg6 arg7 K _ _ _ _ B _)
  isplitl [H2]; · iexact H2
  isplitl [H6]; · iexact H6
  isplitl [H7]; · iexact H7
  iintro ⟨H2, H6, H7⟩
  by_cases h : k0_cond2 i = 1#1
  · rw [dif_pos h]
    iapply (wp_fin c arg3 arg4 arg5 arg6 arg7 K (fstep (BitVec.ofNat 32 (i 0).val) Q B T))
    isplitl [H3]; · iexact H3
    isplitl [H4]; · iexact H4
    isplitl [H5]; · iexact H5
    isplitl [H6]; · iexact H6
    isplitl [H7]; · iexact H7
    iintro ⟨H3, H4, H5, H6, H7⟩
    iapply Hk
    isplitl [H1]; · iexact H1
    isplitl [H2]; · iexact H2
    isplitl [H3 H4 H5]
    · unfold leaves
      iexists _, _, _
      isplitr; · ipureintro; exact fun _ => ⟨rfl, rfl, rfl⟩
      isplitl [H3]; · iexact H3
      isplitl [H4]; · iexact H4
      iexact H5
    isplitl [H6]; · iexact H6
    iexact H7
  · rw [dif_neg h]
    iapply (wpB_ret c K)
    iapply Hk
    isplitl [H1]; · iexact H1
    isplitl [H2]; · iexact H2
    isplitl [H3 H4 H5]
    · unfold leaves
      icases H3 with ⟨%X3, H3⟩
      icases H4 with ⟨%X4, H4⟩
      icases H5 with ⟨%X5, H5⟩
      iexists X3, X4, X5
      isplitr; · ipureintro; exact fun h' => absurd h' h
      isplitl [H3]; · iexact H3
      isplitl [H4]; · iexact H4
      iexact H5
    isplitl [H6]; · iexact H6
    iexact H7

/-- The first point's part. -/
theorem wp_init (K : PUnit → sProp 𝕄) (k : PP F) :
    iprop((∃ X, own c arg6 X) ∗ (∃ X, own c arg7 X) ∗ (iprop(own c arg6 (tab0 (F := F)).1 ∗ own c arg7 (tab0 (F := F)).2) -∗ wpB c k K))
      ⊢ wpB c (initK arg6 arg7 k) K := by
  iintro ⟨H6, H7, Hk⟩
  unfold initK
  iapply (own_load_any c K arg6 _ _ _)
  isplitl [H6]; · iexact H6
  iintro H6
  iapply (own_store_full c K arg6 _ _ _ _ _ _)
  isplitl [H6]; · iexact H6
  iintro H6
  iapply (own_load_any c K arg7 _ _ _)
  isplitl [H7]; · iexact H7
  iintro H7
  iapply (own_store_full c K arg7 _ _ _ _ _ _)
  isplitl [H7]; · iexact H7
  iintro H7
  rw [castSelf, castSelf]
  iapply Hk
  isplitl [H6]; · iexact H6
  iexact H7

/-- The fast body at one point. -/
theorem wp_fast (K : PUnit → sProp 𝕄) (i : grid0.Coords) (Q : S1024x128.Idx → Elt F .f32) (B : BC F) (T : TV F × TI F) :
    iprop(own c arg1 Q ∗ own c arg2 B ∗ (∃ X, own c arg3 X) ∗ (∃ X, own c arg4 X) ∗ (∃ X, own c arg5 X) ∗ own c arg6 T.1 ∗ own c arg7 T.2
        ∗ (iprop(own c arg1 Q ∗ own c arg2 B ∗ leaves c arg3 arg4 arg5 i (fnext i Q B T)
            ∗ own c arg6 (fnext i Q B T).1 ∗ own c arg7 (fnext i Q B T).2) -∗ K ⟨⟩))
      ⊢ wpB c (fastBody arg1 arg2 arg3 arg4 arg5 arg6 arg7 i) K := by
  unfold fastBody fnext start
  by_cases h : isFirst (BitVec.ofNat 32 (i 0).val) = 1#1
  · rw [dif_pos h, if_pos h]
    iintro ⟨H1, H2, H3, H4, H5, H6, H7, Hk⟩
    iapply (wp_init c arg6 arg7 K _)
    isplitl [H6]; · iexists _; iexact H6
    isplitl [H7]; · iexists _; iexact H7
    iintro ⟨H6, H7⟩
    iapply (wp_main c arg1 arg2 arg3 arg4 arg5 arg6 arg7 K i Q B tab0)
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Hk
  · rw [dif_neg h, if_neg h]
    exact wp_main c arg1 arg2 arg3 arg4 arg5 arg6 arg7 K i Q B T

end Fast

/-! ## The plain body -/

/-- The carried values and indices. -/
abbrev CN (F : FTy → Type) := (S1024x128.Idx → Elt F .f32) × (S1024x128.Idx → Elt F .i32)

/-- The carries' first contents, -/
def car0 : CN F := (broadcast S1024x128 negW, broadcast S1024x128 (0#32 : BitVec 32))
/-- what a point starts from, -/
def startN (j : BitVec 32) (T : CN F) : CN F := if isFirst j = 1#1 then car0 else T
/-- the best of a block, -/
def blockN (j : BitVec 32) (Q : S1024x128.Idx → Elt F .f32) (B : BC F) : FVec F S1024x128 .f32 × IVec S1024x128 32 × FVec F S1024x1 .f32 :=
  pulls 8192 reduces_S1024x8192_S1024 broadcasts_S1024x1_S1024x8192 lane (colN j) 10 0 (scoreN j Q B)
    (broadcast S1024x128 negW) (broadcast S1024x128 0#32) (mx 128 reduces_S1024x128_S1024 (broadcast S1024x128 negW))
/-- and the carries joined with it. -/
def joinN (b T : CN F) : FVec F S1024x128 .f32 × IVec S1024x128 32 × FVec F S1024x1 .f32 :=
  pulls 256 reduces_S1024x256_S1024 broadcasts_S1024x1_S1024x256 lane (cat T.2 b.2) 10 0 (cat T.1 b.1)
    (broadcast S1024x128 negW) (broadcast S1024x128 0#32) (mx 128 reduces_S1024x128_S1024 (broadcast S1024x128 negW))
/-- The carries after a block. -/
def nstep (j : BitVec 32) (Q : S1024x128.Idx → Elt F .f32) (B : BC F) (T : CN F) : CN F :=
  ((joinN ((blockN j Q B).1, (blockN j Q B).2.1) T).1, (joinN ((blockN j Q B).1, (blockN j Q B).2.1) T).2.1)
/-- The carries after a point. -/
def nnext (i : grid1.Coords) (Q : S1024x128.Idx → Elt F .f32) (B : BC F) (T : CN F) : CN F :=
  nstep (BitVec.ofNat 32 (i 0).val) Q B (startN (BitVec.ofNat 32 (i 0).val) T)

section Naive

variable (c : Dev nD)
  (arg1 : Memref sig .tc .vmem S1024x128 .f32) (arg2 : Memref sig .tc .vmem S8192x128 .f32)
  (arg3 : Memref sig .tc .vmem S1024x128 .f32) (arg4 : Memref sig .tc .vmem S1024x128 .i32)
  (arg5 : Memref sig .tc .vmem S1024x128 .f32) (arg6 : Memref sig .tc .vmem S1024x128 .i32)

/-- What the body leaves of the two results: at the last point the carries. -/
def leavesN (i : grid1.Coords) (T : CN F) : sProp 𝕄 :=
  iprop(∃ X3 X4, ⌜k1_cond2 i = 1#1 → X3 = T.1 ∧ X4 = T.2⌝ ∗ own c arg3 X3 ∗ own c arg4 X4)

/-- The last point's part. -/
theorem wp_finN (K : PUnit → sProp 𝕄) (T : CN F) :
    iprop((∃ X, own c arg3 X) ∗ (∃ X, own c arg4 X) ∗ own c arg5 T.1 ∗ own c arg6 T.2
        ∗ (iprop(own c arg3 T.1 ∗ own c arg4 T.2 ∗ own c arg5 T.1 ∗ own c arg6 T.2) -∗ K ⟨⟩))
      ⊢ wpB c (finN arg3 arg4 arg5 arg6) K := by
  iintro ⟨H3, H4, H5, H6, Hk⟩
  unfold finN
  iapply (own_load c arg5 _ _ _ T.1 K)
  isplitl [H5]; · iexact H5
  iintro H5
  rw [get_full]
  iapply (own_load_any c K arg3 _ _ _)
  isplitl [H3]; · iexact H3
  iintro H3
  iapply (own_store_full c K arg3 _ _ _ _ _ _)
  isplitl [H3]; · iexact H3
  iintro H3
  iapply (own_load c arg6 _ _ _ T.2 K)
  isplitl [H6]; · iexact H6
  iintro H6
  rw [get_full]
  iapply (own_load_any c K arg4 _ _ _)
  isplitl [H4]; · iexact H4
  iintro H4
  iapply (own_store_full c K arg4 _ _ _ _ _ _)
  isplitl [H4]; · iexact H4
  iintro H4
  iapply (wpB_ret c K)
  iapply Hk
  isplitl [H3]; · iexact H3
  isplitl [H4]; · iexact H4
  isplitl [H5]; · iexact H5
  iexact H6

/-- The body after the first point's part. -/
theorem wp_mainN (K : PUnit → sProp 𝕄) (i : grid1.Coords) (Q : S1024x128.Idx → Elt F .f32) (B : BC F) (T : CN F) :
    iprop(own c arg1 Q ∗ own c arg2 B ∗ (∃ X, own c arg3 X) ∗ (∃ X, own c arg4 X) ∗ own c arg5 T.1 ∗ own c arg6 T.2
        ∗ (iprop(own c arg1 Q ∗ own c arg2 B ∗ leavesN c arg3 arg4 i (nstep (BitVec.ofNat 32 (i 0).val) Q B T)
            ∗ own c arg5 (nstep (BitVec.ofNat 32 (i 0).val) Q B T).1 ∗ own c arg6 (nstep (BitVec.ofNat 32 (i 0).val) Q B T).2) -∗ K ⟨⟩))
      ⊢ wpB c (mainN arg1 arg2 arg3 arg4 arg5 arg6 i) K := by
  iintro ⟨H1, H2, H3, H4, H5, H6, Hk⟩
  unfold mainN
  iapply (own_load c arg1 _ _ _ Q K)
  isplitl [H1]; · iexact H1
  iintro H1
  rw [get_full]
  iapply (own_load c arg2 _ _ _ B K)
  isplitl [H2]; · iexact H2
  iintro H2
  rw [get_full, pullsK_eq]
  iapply (own_load c arg5 _ _ _ T.1 K)
  isplitl [H5]; · iexact H5
  iintro H5
  iapply (own_load c arg6 _ _ _ T.2 K)
  isplitl [H6]; · iexact H6
  iintro H6
  rw [get_full, get_full, pullsK_eq]
  iapply (own_load_any c K arg5 _ _ _)
  isplitl [H5]; · iexists _; iexact H5
  iintro H5
  iapply (own_store_full c K arg5 _ _ _ _ _ _)
  isplitl [H5]; · iexact H5
  iintro H5
  iapply (own_load_any c K arg6 _ _ _)
  isplitl [H6]; · iexists _; iexact H6
  iintro H6
  iapply (own_store_full c K arg6 _ _ _ _ _ _)
  isplitl [H6]; · iexact H6
  iintro H6
  rw [castSelf, castSelf]
  by_cases h : k1_cond2 i = 1#1
  · rw [dif_pos h]
    iapply (wp_finN c arg3 arg4 arg5 arg6 K (nstep (BitVec.ofNat 32 (i 0).val) Q B T))
    isplitl [H3]; · iexact H3
    isplitl [H4]; · iexact H4
    isplitl [H5]; · iexact H5
    isplitl [H6]; · iexact H6
    iintro ⟨H3, H4, H5, H6⟩
    iapply Hk
    isplitl [H1]; · iexact H1
    isplitl [H2]; · iexact H2
    isplitl [H3 H4]
    · unfold leavesN
      iexists _, _
      isplitr; · ipureintro; exact fun _ => ⟨rfl, rfl⟩
      isplitl [H3]; · iexact H3
      iexact H4
    isplitl [H5]; · iexact H5
    iexact H6
  · rw [dif_neg h]
    iapply (wpB_ret c K)
    iapply Hk
    isplitl [H1]; · iexact H1
    isplitl [H2]; · iexact H2
    isplitl [H3 H4]
    · unfold leavesN
      icases H3 with ⟨%X3, H3⟩
      icases H4 with ⟨%X4, H4⟩
      iexists X3, X4
      isplitr; · ipureintro; exact fun h' => absurd h' h
      isplitl [H3]; · iexact H3
      iexact H4
    isplitl [H5]; · iexact H5
    iexact H6

/-- The first point's part. -/
theorem wp_initN (K : PUnit → sProp 𝕄) (k : PP F) :
    iprop((∃ X, own c arg5 X) ∗ (∃ X, own c arg6 X) ∗ (iprop(own c arg5 (car0 (F := F)).1 ∗ own c arg6 (car0 (F := F)).2) -∗ wpB c k K))
      ⊢ wpB c (initN arg5 arg6 k) K := by
  iintro ⟨H6, H7, Hk⟩
  unfold initN
  iapply (own_load_any c K arg5 _ _ _)
  isplitl [H6]; · iexact H6
  iintro H6
  iapply (own_store_full c K arg5 _ _ _ _ _ _)
  isplitl [H6]; · iexact H6
  iintro H6
  iapply (own_load_any c K arg6 _ _ _)
  isplitl [H7]; · iexact H7
  iintro H7
  iapply (own_store_full c K arg6 _ _ _ _ _ _)
  isplitl [H7]; · iexact H7
  iintro H7
  rw [castSelf, castSelf]
  iapply Hk
  isplitl [H6]; · iexact H6
  iexact H7

/-- The plain body at one point. -/
theorem wp_naive (K : PUnit → sProp 𝕄) (i : grid1.Coords) (Q : S1024x128.Idx → Elt F .f32) (B : BC F) (T : CN F) :
    iprop(own c arg1 Q ∗ own c arg2 B ∗ (∃ X, own c arg3 X) ∗ (∃ X, own c arg4 X) ∗ own c arg5 T.1 ∗ own c arg6 T.2
        ∗ (iprop(own c arg1 Q ∗ own c arg2 B ∗ leavesN c arg3 arg4 i (nnext i Q B T)
            ∗ own c arg5 (nnext i Q B T).1 ∗ own c arg6 (nnext i Q B T).2) -∗ K ⟨⟩))
      ⊢ wpB c (naiveBody arg1 arg2 arg3 arg4 arg5 arg6 i) K := by
  unfold naiveBody nnext startN
  by_cases h : isFirst (BitVec.ofNat 32 (i 0).val) = 1#1
  · rw [dif_pos h, if_pos h]
    iintro ⟨H1, H2, H3, H4, H6, H7, Hk⟩
    iapply (wp_initN c arg5 arg6 K _)
    isplitl [H6]; · iexists _; iexact H6
    isplitl [H7]; · iexists _; iexact H7
    iintro ⟨H6, H7⟩
    iapply (wp_mainN c arg1 arg2 arg3 arg4 arg5 arg6 K i Q B car0)
    isplitl [H1]; · iexact H1
    isplitl [H2]; · iexact H2
    isplitl [H3]; · iexact H3
    isplitl [H4]; · iexact H4
    isplitl [H6]; · iexact H6
    isplitl [H7]; · iexact H7
    iexact Hk
  · rw [dif_neg h, if_neg h]
    exact wp_mainN c arg1 arg2 arg3 arg4 arg5 arg6 K i Q B T

end Naive

end Cert.Kernel.Body

end
-- ==== Proof.Region0.lean ====
/-
  The fast call's proof data: what its tables may hold before each point, and that the body keeps it so.
-/
module

public import proofs.«01_k».proof.Proof.BodyWp
public import proofs.«01_k».proof.Proof.Gen.Kernel.Launch
public import proofs.«01_k».proof.Proof.Gen.Kernel.Points
public import Idealize.ShloMosaic.Lib.Pipeline.FrameBody
public import Idealize.ShloMosaic.Lib.Pipeline.Regions

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Pipeline (RDat Cfg Window)

variable {F : FTy → Type} [FloatOps F]

local notation "𝕄" => MT nD τ sig Unit (Elt F) ℕ (UU nD τ) ℕ

/-- What a fetch of block `t` may leave in a staging buffer of the columns: the block, and anything past the array's end. -/
def isB0 (A : S100000x128.Idx → Elt F .f32) (t : Fin cfg0.N) (B : BC F) : Prop :=
  ∃ d, B = (cfg0.win 1).fill (cfg0.grid.coords t) d (((cfg0.win 1).blk t).view.read (Elt F) A)
/-- The same of the queries. -/
def isQ0 (A : S1024x128.Idx → Elt F .f32) (t : Fin cfg0.N) (Q : S1024x128.Idx → Elt F .f32) : Prop :=
  ∃ d, Q = (cfg0.win 0).fill (cfg0.grid.coords t) d (((cfg0.win 0).blk t).view.read (Elt F) A)

/-- What the tables may hold before point `n`, for the queries `Aq` and the columns `Ac`. -/
def Reach0 (Aq : S1024x128.Idx → Elt F .f32) (Ac : S100000x128.Idx → Elt F .f32) : Nat → TV F × TI F → Prop
  | 0, _ => True
  | n + 1, T => ∃ (h : n < cfg0.N) (Q : S1024x128.Idx → Elt F .f32) (B : BC F) (T' : TV F × TI F),
      Reach0 Aq Ac n T' ∧ isQ0 Aq ⟨n, h⟩ Q ∧ isB0 Ac ⟨n, h⟩ B ∧ T = fnext (grid0.coords ⟨n, h⟩) Q B T'

variable (V : Dev nD → Valuation τ sig (Elt F))

/-- The invariant before point `n`: the tables at contents they may hold, and the other scoped buffers at something. -/
def Phi0 (c : Dev nD) (n : Nat) : sProp 𝕄 :=
  iprop(∃ T : TV F × TI F, ⌜Reach0 (V c main_v10) (V c main_v15) n T⌝ ∗ own c (Memref.whole cc0_scratch0) T.1 ∗ own c (Memref.whole cc0_scratch1) T.2
    ∗ ((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)))

/-- The proof data on core `c`: the arrays at what the host left; the inputs' buffers left as found; at the last point the
    results' buffers at what some possible tables give. -/
def rd0 (c : Dev nD) : RDat τ (Elt F) Unit ℕ (UU nD τ) ℕ cfg0 c where
  A w := V c (Pipeline.arrRef spec0 w)
  after w t := match w with
    | ⟨0, _⟩ => fun Y X => X = Y
    | ⟨1, _⟩ => fun Y X => X = Y
    | ⟨2, _⟩ => fun _ X => k0_cond2 (grid0.coords t) = 1#1 → ∃ T, Reach0 (V c main_v10) (V c main_v15) (t.val + 1) T ∧ X = outV T
    | ⟨3, _⟩ => fun _ X => k0_cond2 (grid0.coords t) = 1#1 → ∃ T, Reach0 (V c main_v10) (V c main_v15) (t.val + 1) T ∧ X = outI T
    | ⟨4, _⟩ => fun _ X => k0_cond2 (grid0.coords t) = 1#1 → ∃ T, Reach0 (V c main_v10) (V c main_v15) (t.val + 1) T ∧ X = outF T
  Φ t := Phi0 V c t.val
  q _ := fullShare
  owed _ := 0

/-- The queries' buffer holds a fetch of the queries, -/
theorem finds0_0 (c : Dev nD) (t : Fin cfg0.N) (Y) (h : (rd0 V c).Finds 0 t Y) : isQ0 (V c main_v10) t Y :=
  (rd0 V c).finds_in_eq_fetched 0 rfl (fun _ _ _ => rfl) (fun _ _ _ h => h) t Y h

/-- and the columns' a fetch of their block. -/
theorem finds0_1 (c : Dev nD) (t : Fin cfg0.N) (Y) (h : (rd0 V c).Finds 1 t Y) : isB0 (V c main_v15) t Y :=
  ((rd0 V c).finds_of_fetch (fetch0_1 t) Y).mp h

/-- The body keeps the invariant. -/
theorem body0 (c : Dev nD) : (rd0 V c).BodyObligation (defs₀ (F := F)) Variants.none () Set.univ := fun t Y hY => by
  have h0 := finds0_0 V c t (Y 0) (hY 0)
  have h1 := finds0_1 V c t (Y 1) (hY 1)
  rw [bigSep_W0, bigSep_W0]
  rw [show (rd0 V c).Φ t.castSucc = Phi0 V c t.val from rfl, show (rd0 V c).Φ t.succ = Phi0 V c (t.val + 1) from rfl]
  show _ ⊢ wpB c (bodyAt0 t) _
  unfold bodyAt0
  rw [fast_eq]
  unfold RDat.owesAt Pipeline.owesWithin
  rw [show (rd0 V c).owed t.castSucc = 0 from rfl, show (rd0 V c).owed t.succ = 0 from rfl]
  unfold Phi0
  iintro ⟨⟨%T, %hT, HV, HI, Hr⟩, ⟨%W, %hW, HO⟩, H0, H1, H2, H3, H4⟩
  iapply (wp_fast c (st0_0 t) (st0_1 t) (st0_2 t) (st0_3 t) (st0_4 t) (Memref.whole cc0_scratch0) (Memref.whole cc0_scratch1) _ (grid0.coords t) (Y 0) (Y 1) T)
  isplitl [H0]; · iexact H0
  isplitl [H1]; · iexact H1
  isplitl [H2]; · iexists _; iexact H2
  isplitl [H3]; · iexists _; iexact H3
  isplitl [H4]; · iexists _; iexact H4
  isplitl [HV]; · iexact HV
  isplitl [HI]; · iexact HI
  unfold leaves
  iintro ⟨H0, H1, ⟨%X3, %X4, %X5, %hX, H2, H3, H4⟩, HV, HI⟩
  have hT' : Reach0 (V c main_v10) (V c main_v15) (t.val + 1) (fnext (grid0.coords t) (Y 0) (Y 1) T) := ⟨t.isLt, Y 0, Y 1, T, hT, h0, h1, rfl⟩
  isplitl [HV HI Hr]
  · iexists _
    isplitr; · ipureintro; exact hT'
    isplitl [HV]; · iexact HV
    isplitl [HI]; · iexact HI
    iexact Hr
  isplitl [HO]
  · iexists W; isplitr; · ipureintro; exact fun _ _ => Or.inl trivial
    iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; exact fun h => ⟨_, hT', (hX h).1⟩
  isplitl [H3]
  · iexists _; isplitr; swap; (· iexact H3); ipureintro; exact fun h => ⟨_, hT', (hX h).2.1⟩
  · iexists _; isplitr; swap; (· iexact H4); ipureintro; exact fun h => ⟨_, hT', (hX h).2.2⟩

end Cert.Kernel.Body

end
-- ==== Proof.Region1.lean ====
/-
  The plain call's proof data: what its carries may hold before each point, and that the body keeps it so.
-/
module

public import proofs.«01_k».proof.Proof.BodyWp
public import proofs.«01_k».proof.Proof.Gen.Kernel.Launch
public import proofs.«01_k».proof.Proof.Gen.Kernel.Points
public import Idealize.ShloMosaic.Lib.Pipeline.FrameBody
public import Idealize.ShloMosaic.Lib.Pipeline.Regions

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Pipeline (RDat Cfg Window)

variable {F : FTy → Type} [FloatOps F]

local notation "𝕄" => MT nD τ sig Unit (Elt F) ℕ (UU nD τ) ℕ

/-- What a fetch of block `t` may leave in a staging buffer of the columns; -/
def isB1 (A : S100000x128.Idx → Elt F .f32) (t : Fin cfg1.N) (B : BC F) : Prop :=
  ∃ d, B = (cfg1.win 1).fill (cfg1.grid.coords t) d (((cfg1.win 1).blk t).view.read (Elt F) A)
/-- the same of the queries. -/
def isQ1 (A : S1024x128.Idx → Elt F .f32) (t : Fin cfg1.N) (Q : S1024x128.Idx → Elt F .f32) : Prop :=
  ∃ d, Q = (cfg1.win 0).fill (cfg1.grid.coords t) d (((cfg1.win 0).blk t).view.read (Elt F) A)

/-- What the carries may hold before point `n`. -/
def Reach1 (Aq : S1024x128.Idx → Elt F .f32) (Ac : S100000x128.Idx → Elt F .f32) : Nat → CN F → Prop
  | 0, _ => True
  | n + 1, T => ∃ (h : n < cfg1.N) (Q : S1024x128.Idx → Elt F .f32) (B : BC F) (T' : CN F),
      Reach1 Aq Ac n T' ∧ isQ1 Aq ⟨n, h⟩ Q ∧ isB1 Ac ⟨n, h⟩ B ∧ T = nnext (grid1.coords ⟨n, h⟩) Q B T'

variable (V : Dev nD → Valuation τ sig (Elt F))

/-- The invariant before point `n`: the carries at contents they may hold, and the other scoped buffers at something. -/
def Phi1 (c : Dev nD) (n : Nat) : sProp 𝕄 :=
  iprop(∃ T : CN F, ⌜Reach1 (V c main_v10) (V c main_v15) n T⌝ ∗ own c (Memref.whole cc1_scratch0) T.1 ∗ own c (Memref.whole cc1_scratch1) T.2
    ∗ ((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)))

/-- The proof data on core `c`. -/
def rd1 (c : Dev nD) : RDat τ (Elt F) Unit ℕ (UU nD τ) ℕ cfg1 c where
  A w := V c (Pipeline.arrRef spec1 w)
  after w t := match w with
    | ⟨0, _⟩ => fun Y X => X = Y
    | ⟨1, _⟩ => fun Y X => X = Y
    | ⟨2, _⟩ => fun _ X => k1_cond2 (grid1.coords t) = 1#1 → ∃ T, Reach1 (V c main_v10) (V c main_v15) (t.val + 1) T ∧ X = T.1
    | ⟨3, _⟩ => fun _ X => k1_cond2 (grid1.coords t) = 1#1 → ∃ T, Reach1 (V c main_v10) (V c main_v15) (t.val + 1) T ∧ X = T.2
  Φ t := Phi1 V c t.val
  q _ := fullShare
  owed _ := 0

/-- The queries' buffer holds a fetch of the queries, -/
theorem finds1_0 (c : Dev nD) (t : Fin cfg1.N) (Y) (h : (rd1 V c).Finds 0 t Y) : isQ1 (V c main_v10) t Y :=
  (rd1 V c).finds_in_eq_fetched 0 rfl (fun _ _ _ => rfl) (fun _ _ _ h => h) t Y h

/-- and the columns' a fetch of their block. -/
theorem finds1_1 (c : Dev nD) (t : Fin cfg1.N) (Y) (h : (rd1 V c).Finds 1 t Y) : isB1 (V c main_v15) t Y :=
  ((rd1 V c).finds_of_fetch (fetch1_1 t) Y).mp h

/-- The body keeps the invariant. -/
theorem body1 (c : Dev nD) : (rd1 V c).BodyObligation (defs₀ (F := F)) Variants.none () Set.univ := fun t Y hY => by
  have h0 := finds1_0 V c t (Y 0) (hY 0)
  have h1 := finds1_1 V c t (Y 1) (hY 1)
  rw [bigSep_W1, bigSep_W1]
  rw [show (rd1 V c).Φ t.castSucc = Phi1 V c t.val from rfl, show (rd1 V c).Φ t.succ = Phi1 V c (t.val + 1) from rfl]
  show _ ⊢ wpB c (bodyAt1 t) _
  unfold bodyAt1
  rw [naive_eq]
  unfold RDat.owesAt Pipeline.owesWithin
  rw [show (rd1 V c).owed t.castSucc = 0 from rfl, show (rd1 V c).owed t.succ = 0 from rfl]
  unfold Phi1
  iintro ⟨⟨%T, %hT, HV, HI, Hr⟩, ⟨%W, %hW, HO⟩, H0, H1, H2, H3⟩
  iapply (wp_naive c (st1_0 t) (st1_1 t) (st1_2 t) (st1_3 t) (Memref.whole cc1_scratch0) (Memref.whole cc1_scratch1) _ (grid1.coords t) (Y 0) (Y 1) T)
  isplitl [H0]; · iexact H0
  isplitl [H1]; · iexact H1
  isplitl [H2]; · iexists _; iexact H2
  isplitl [H3]; · iexists _; iexact H3
  isplitl [HV]; · iexact HV
  isplitl [HI]; · iexact HI
  unfold leavesN
  iintro ⟨H0, H1, ⟨%X3, %X4, %hX, H2, H3⟩, HV, HI⟩
  have hT' : Reach1 (V c main_v10) (V c main_v15) (t.val + 1) (nnext (grid1.coords t) (Y 0) (Y 1) T) := ⟨t.isLt, Y 0, Y 1, T, hT, h0, h1, rfl⟩
  isplitl [HV HI Hr]
  · iexists _
    isplitr; · ipureintro; exact hT'
    isplitl [HV]; · iexact HV
    isplitl [HI]; · iexact HI
    iexact Hr
  isplitl [HO]
  · iexists W; isplitr; · ipureintro; exact fun _ _ => Or.inl trivial
    iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; exact fun h => ⟨_, hT', (hX h).1⟩
  · iexists _; isplitr; swap; (· iexact H3); ipureintro; exact fun h => ⟨_, hT', (hX h).2⟩

end Cert.Kernel.Body

end
-- ==== Proof.Regs.lean ====
/-
  The two calls as regions of the host's run: what each is entered from and what it leaves.
-/
module

public import proofs.«01_k».proof.Proof.Region0
public import proofs.«01_k».proof.Proof.Region1
public import Idealize.ShloMosaic.Lib.Pipeline.ArrRel
public import Idealize.ShloMosaic.Lib.Pipeline.RegionsLoop

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Pipeline (RDat Cfg Window)

variable {F : FTy → Type} [FloatOps F]

local notation "𝕄" => MT nD τ sig Unit (Elt F) ℕ (UU nD τ) ℕ

variable (V : Dev nD → Valuation τ sig (Elt F))

/-- No core owes another anything. -/
abbrev L : GSem nD τ sig → Finset Unit := fun _ => ∅
abbrev lv : GSem nD τ sig → Unit → ℕ := fun _ _ => 0
/-- No prefetched table. -/
abbrev adm : (p : Fin 2) → (pcfgs (F := F) p).Adm := fun p => (cfgs p).toPCfg_adm
abbrev 𝒱₀ : Variants := Variants.none

/-- The two calls' proof data. -/
def rdats : (p : Fin 2) → (c : Dev nD) → RDat τ (Elt F) Unit ℕ (UU nD τ) ℕ (Pipeline.pin (pcfgs (F := F)) adm p) c
  | ⟨0, _⟩ => rd0 V
  | ⟨1, _⟩ => rd1 V

/-- The buffers that outlive a call, as device buffers. -/
def ucRefs : Finset (DevRef τ sig) := (StableHlo.tcRefs τ sig).filter fun b => ¬ b.isScoped

omit [FloatOps F] in
/-- The core's buffers that outlive a call are that set. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
/-- A host operation touches such buffers only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- A valuation with call `p`'s arrays replaced by `A`. -/
theorem exists_upd {W : Nat} (r : Fin W → Ref sig .tc) (hr : Function.Injective r) (G : Valuation τ sig (Elt F))
    (A : (w : Fin W) → ((Proc.devRef .tc (r w) : DevRef τ sig)).ty.Contents (Elt F)) :
    ∃ G' : Valuation τ sig (Elt F), (∀ w, G' (r w) = A w) ∧ ∀ b : Ref sig .tc, b ∉ Finset.univ.image r → G' b = G b := by
  classical
  refine ⟨fun d => if h : ∃ w, (Proc.devRef .tc (r w) : DevRef τ sig) = d then h.choose_spec ▸ A h.choose else G d, fun w => ?_, fun b hb => ?_⟩
  · have h : ∃ w', (Proc.devRef .tc (r w') : DevRef τ sig) = Proc.devRef .tc (r w) := ⟨w, rfl⟩
    show (if h : ∃ w', (Proc.devRef .tc (r w') : DevRef τ sig) = Proc.devRef .tc (r w) then h.choose_spec ▸ A h.choose else G (r w)) = A w
    rw [dif_pos h]
    have key : ∀ (w' : Fin W) (e : (Proc.devRef .tc (r w') : DevRef τ sig) = Proc.devRef .tc (r w)), e ▸ A w' = A w := fun w' e => by
      have : w' = w := hr (by by_contra hne; exact StableHlo.devRef_ne_of_ne hne e)
      subst this; rfl
    exact key _ _
  · have h : ¬ ∃ w', (Proc.devRef .tc (r w') : DevRef τ sig) = Proc.devRef .tc b := fun ⟨w', e⟩ =>
      hb (Finset.mem_image.mpr ⟨w', Finset.mem_univ _, by by_contra hne; exact StableHlo.devRef_ne_of_ne hne e⟩)
    show (if h : ∃ w', (Proc.devRef .tc (r w') : DevRef τ sig) = Proc.devRef .tc b then h.choose_spec ▸ A h.choose else G b) = G b
    rw [dif_neg h]

/-- What call `p` leaves of a core's buffers entered at `W`: each of its arrays at contents it may then hold, the others as they were. -/
def Left (p : Fin 2) (c : Dev nD) (W W' : Valuation τ sig (Elt F)) : Prop :=
  (∀ w, (rdats V p c).ArrAt w (Pipeline.pin (pcfgs (F := F)) adm p).N (W' (Pipeline.arrRef (Pipeline.pin (pcfgs (F := F)) adm p).spec w)))
    ∧ ∀ b : Ref sig .tc, b ∉ Finset.univ.image (Pipeline.arrRef (Pipeline.pin (pcfgs (F := F)) adm p).spec) → W' b = W b

/-- The arrays after a call and the other buffers, together. -/
theorem exit_held (p : Fin 2) (hw : Pipeline.WinFacts (Pipeline.pin (pcfgs (F := F)) adm p).spec)
    (harr : ∀ w, ((Pipeline.pin (pcfgs (F := F)) adm p).spec w).arr.IsWhole) (hshare : ∀ c w, (rdats V p c).share w = fullShare)
    (c : Dev nD) (W : Valuation τ sig (Elt F)) :
    iprop((rdats V p c).arraysAt (Pipeline.pin (pcfgs (F := F)) adm p).N ∗ Pipeline.unscopedRest (Pipeline.pin (pcfgs (F := F)) adm p).spec c (fun b => W b))
      ⊢ (iprop(∃ W', ⌜Left V p c W W'⌝ ∗ StableHlo.held (c : Thread nD τ) ucRefs W') : sProp 𝕄) := by
  haveI : ∀ w, Nonempty (Buf (Elt F) ((((Pipeline.pin (pcfgs (F := F)) adm p).win w).arr.view.loc (c : Thread nD τ)))) := fun w => ⟨(rdats V p c).A w⟩
  unfold RDat.arraysAt
  have h1 := bigSep_exists_pi (M := 𝕄) (Y := fun w => Buf (Elt F) ((((Pipeline.pin (pcfgs (F := F)) adm p).win w).arr.view.loc (c : Thread nD τ))))
    Finset.univ (fun w A => iprop(⌜(rdats V p c).ArrAt w (Pipeline.pin (pcfgs (F := F)) adm p).N A⌝
      ∗ ((Pipeline.pin (pcfgs (F := F)) adm p).win w).arr.view.loc (c : Thread nD τ) ↦[((Pipeline.pin (pcfgs (F := F)) adm p).win w).arr.view.set]{(rdats V p c).share w} A))
  iintro ⟨Ha, Hr⟩
  ihave H := h1 $$ Ha
  icases H with ⟨%A, H⟩
  ihave H := (bigSep_pure_sep (M := 𝕄) Finset.univ _ _) $$ H
  icases H with ⟨%hA, H⟩
  obtain ⟨W', hW', hrest⟩ := exists_upd (Pipeline.arrRef (Pipeline.pin (pcfgs (F := F)) adm p).spec) hw.arr_inj W A
  iexists W'
  isplitr
  · ipureintro
    exact ⟨fun w => (hW' w).symm ▸ hA w (Finset.mem_univ _), hrest⟩
  rw [← unscopedBufs_held, Pipeline.unscopedBufs_split (Pipeline.pin (pcfgs (F := F)) adm) p hw.arr_unscoped hw.arr_inj c (fun b => W' b)]
  isplitl [H]
  · iapply (Entails.of_eq (bigSep_congr fun w _ => ?_)) $$ H
    rw [(harr w).set_eq_univ, hshare c w, hW' w]
  · iapply (Entails.of_eq ?_) $$ Hr
    unfold Pipeline.unscopedRest
    exact bigSep_congr fun b hb => by dsimp only; rw [hrest b (Finset.mem_sdiff.mp hb).2]

/-- What a core owes: nothing. -/
abbrev Ow (c : Dev nD) : sProp 𝕄 := iprop(∃ W, owes (c : Thread nD τ) (0 : CellTallies nD τ sig Unit) W)

set_option backward.isDefEq.respectTransparency.types false in
/-- A call as a region: entered at any valuation satisfying `P`, left at one that `Left` relates to it; `G` rides beside. -/
def reg (p : Fin 2) (hl : Pipeline.LaunchFacts (nD := nD) (τ := τ) cfgs p)
    (hbody : ∀ c, (rdats V p c).BodyObligation (defs₀ (F := F)) Variants.none () Set.univ)
    (hshare : ∀ c w, (rdats V p c).share w = fullShare) (howed : ∀ c t, (rdats V p c).owed t = 0)
    (hrec : ∀ c t, (rdats V p c).recorded t = Set.univ)
    (hin : ∀ c, (Pipeline.scopedRest (Ix := Unit) (Name := ℕ) (U := UU nD τ) (Lvl := ℕ) (Val := Elt F) (cfgs p).spec c : sProp 𝕄) ⊢ (rdats V p c).Φ 0)
    (hout : ∀ c, (rdats V p c).Φ (Fin.last _) ⊢ (Pipeline.scopedRest (Ix := Unit) (Name := ℕ) (U := UU nD τ) (Lvl := ℕ) (Val := Elt F) (cfgs p).spec c : sProp 𝕄))
    (P : Dev nD → Valuation τ sig (Elt F) → Prop)
    (hP : ∀ c W, P c W → ∀ w, (rdats V p c).A w = W (Pipeline.arrRef (Pipeline.pin (pcfgs (F := F)) adm p).spec w))
    (hosem : Pipeline.OwnSemFacts (cfgs p).spec (fun k : Fin 0 => k.elim0)) (G : Dev nD → sProp 𝕄) :
    RDat.RegionSeg (pcfgs (F := F)) adm (rdats V) () defs₀ 𝒱₀ L lv p where
  win := hl.win.to₀
  block_pos := hl.block_pos
  stage_whole := hl.stage_whole
  K := Fin 0
  osem := fun k => k.elim0
  ho := hosem
  hbody := hbody
  hwaits := RDat.hwaits_of_owed_zero _ _ _ _ L lv p howed
  pre c := iprop((∃ W, ⌜P c W⌝ ∗ StableHlo.held (c : Thread nD τ) ucRefs W) ∗ Ow c ∗ G c)
  post c := iprop((∃ W W', ⌜P c W ∧ Left V p c W W'⌝ ∗ StableHlo.held (c : Thread nD τ) ucRefs W') ∗ Ow c ∗ G c)
  X c := BI.emp
  Y c := BI.emp
  Z c := iprop((∃ W : Valuation τ sig (Elt F), ⌜P c W⌝ ∗ Pipeline.unscopedRest (Pipeline.pin (pcfgs (F := F)) adm p).spec c (fun b => W b)) ∗ G c)
  hentry c := by
    iintro ⟨⟨⟨%W, %hW, Hh⟩, ⟨%Wo, HO⟩, HG⟩, -, -⟩
    ihave Hh := (Entails.of_eq (unscopedBufs_held c W).symm) $$ Hh
    ihave Hh := (RDat.arrays_of_unscopedBufs (pcfgs (F := F)) adm (rdats V) hl.win hl.arr_whole c (hshare c) (fun b => W b) (hP c W hW)) $$ Hh
    icases Hh with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      rw [howed]
      iexists Wo; isplitr; · ipureintro; unfold RDat.bound; rw [hrec]; exact fun _ _ => Or.inl trivial
      iexact HO
    isplitr; · iempintro
    isplitr [HG]
    · iexists W; isplitr; · ipureintro; exact hW
      iexact Hr
    iexact HG
  hin c := by
    iintro ⟨-, -, H⟩
    iapply (hin c) $$ H
  hout c := by
    iintro H
    isplitr; · iempintro
    isplitr
    · unfold Pipeline.ownSems0; rw [show (Finset.univ : Finset (Fin 0)) = ∅ from rfl, BI.bigSep_empty]; iempintro
    iapply (hout c) $$ H
  hexit c := by
    iintro ⟨Ha, HO, -, ⟨%W, %hW, Hr⟩, HG⟩
    ihave H := (exit_held V p hl.win hl.arr_whole hshare c W) $$ [Ha Hr]
    · isplitl [Ha] <;> iassumption
    icases H with ⟨%W', %hL, H⟩
    imodintro
    isplitl [H]
    · iexists W; iexists W'; isplitr; · ipureintro; exact ⟨hW, hL⟩
      iexact H
    isplitr [HG]
    · unfold RDat.owesAt Pipeline.owesWithin
      rw [howed]
      icases HO with ⟨%Wo, -, HO⟩; iexists Wo; iexact HO
    iexact HG

/-- A whole buffer held is a memref of it owned. -/
theorem own_of_pts (c : Dev nD) (b : Ref sig .tc) (f : b.ty.Contents (Elt F)) :
    (((c : Thread nD τ).loc b) ↦{fullShare} f) ⊢ (own c (Memref.whole b) f : sProp 𝕄) :=
  Entails.of_eq (owns_whole (c : Thread nD τ) b fullShare f).symm
theorem pts_of_own (c : Dev nD) (b : Ref sig .tc) (f : b.ty.Contents (Elt F)) :
    (own c (Memref.whole b) f : sProp 𝕄) ⊢ (((c : Thread nD τ).loc b) ↦{fullShare} f) :=
  Entails.of_eq (owns_whole (c : Thread nD τ) b fullShare f)

/-- The fast call's scoped buffers make its first invariant, -/
theorem in0 (c : Dev nD) : (Pipeline.scopedRest (Ix := Unit) (Name := ℕ) (U := UU nD τ) (Lvl := ℕ) (Val := Elt F) spec0 c : sProp 𝕄) ⊢ Phi0 V c 0 := by
  rw [scopedRest0_eq]; unfold Phi0
  iintro ⟨⟨%f, Hf⟩, ⟨%g, Hg⟩, Hr⟩
  iexists (f, g)
  isplitr; · ipureintro; exact trivial
  isplitl [Hf]; · iapply (own_of_pts c cc0_scratch0 f) $$ Hf
  isplitl [Hg]; · iapply (own_of_pts c cc0_scratch1 g) $$ Hg
  iexact Hr
/-- and its invariant gives them back. -/
theorem out0 (c : Dev nD) (n : Nat) : Phi0 V c n ⊢ (Pipeline.scopedRest (Ix := Unit) (Name := ℕ) (U := UU nD τ) (Lvl := ℕ) (Val := Elt F) spec0 c : sProp 𝕄) := by
  rw [scopedRest0_eq]; unfold Phi0
  iintro ⟨%T, -, Hf, Hg, Hr⟩
  isplitl [Hf]; · iexists T.1; iapply (pts_of_own c cc0_scratch0 T.1) $$ Hf
  isplitl [Hg]; · iexists T.2; iapply (pts_of_own c cc0_scratch1 T.2) $$ Hg
  iexact Hr
/-- The plain call's, -/
theorem in1 (c : Dev nD) : (Pipeline.scopedRest (Ix := Unit) (Name := ℕ) (U := UU nD τ) (Lvl := ℕ) (Val := Elt F) spec1 c : sProp 𝕄) ⊢ Phi1 V c 0 := by
  rw [scopedRest1_eq]; unfold Phi1
  iintro ⟨H1, H2, H3, H4, H5, H6, H7, H8, ⟨%f, Hf⟩, ⟨%g, Hg⟩⟩
  iexists (f, g)
  isplitr; · ipureintro; exact trivial
  isplitl [Hf]; · iapply (own_of_pts c cc1_scratch0 f) $$ Hf
  isplitl [Hg]; · iapply (own_of_pts c cc1_scratch1 g) $$ Hg
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
/-- given back. -/
theorem out1 (c : Dev nD) (n : Nat) : Phi1 V c n ⊢ (Pipeline.scopedRest (Ix := Unit) (Name := ℕ) (U := UU nD τ) (Lvl := ℕ) (Val := Elt F) spec1 c : sProp 𝕄) := by
  rw [scopedRest1_eq]; unfold Phi1
  iintro ⟨%T, -, Hf, Hg, H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hf]; · iexists T.1; iapply (pts_of_own c cc1_scratch0 T.1) $$ Hf
  iexists T.2; iapply (pts_of_own c cc1_scratch1 T.2) $$ Hg

/-- Neither call has a semaphore of its own. -/
theorem ownSem0 : Pipeline.OwnSemFacts spec0 (fun k : Fin 0 => k.elim0) := by decide
theorem ownSem1 : Pipeline.OwnSemFacts spec1 (fun k : Fin 0 => k.elim0) := by decide

set_option backward.isDefEq.respectTransparency.types false in
/-- The fast call as a region. -/
def reg0 (G : Dev nD → sProp 𝕄) : RDat.RegionSeg (pcfgs (F := F)) adm (rdats V) () defs₀ 𝒱₀ L lv 0 :=
  reg V 0 launch0 (body0 V) (fun c w => by show (rd0 V c).share w = _; unfold RDat.share; split <;> rfl) (fun _ _ => rfl) (fun _ _ => rfl)
    (in0 V) (fun c => out0 V c _) (fun c W => W = V c) (fun c W h w => by subst h; show (rd0 V c).A w = _; dsimp only [rd0]; rfl) ownSem0 G

set_option backward.isDefEq.respectTransparency.types false in
/-- The plain call as a region, entered at valuations with the arrays as the fast call found them. -/
def reg1 (P : Dev nD → Valuation τ sig (Elt F) → Prop) (hP : ∀ c W, P c W → ∀ w : Fin 4, W (Pipeline.arrRef spec1 w) = V c (Pipeline.arrRef spec1 w)) :
    RDat.RegionSeg (pcfgs (F := F)) adm (rdats V) () defs₀ 𝒱₀ L lv 1 :=
  reg V 1 launch1 (body1 V) (fun c w => by show (rd1 V c).share w = _; unfold RDat.share; split <;> rfl) (fun _ _ => rfl) (fun _ _ => rfl)
    (in1 V) (fun c => out1 V c _) P (fun c W h w => by show (rd1 V c).A w = _; dsimp only [rd1]; exact (hP c W h w).symm) ownSem1 (fun _ => BI.emp)

end Cert.Kernel.Body

end
-- ==== Proof.Run.lean ====
/-
  The host's run: the operations before the fast call, the call, the test of its flags, and the branch on it.
-/
module

public import proofs.«01_k».proof.Proof.Regs
public import Idealize.ShloMosaic.Lib.HostLoop.Rules
public import Idealize.ShloMosaic.Lib.Pipeline.RegionsOwned

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Pipeline (RDat Cfg Window)

variable {F : FTy → Type} [FloatOps F]

local notation "𝕄" => MT nD τ sig Unit (Elt F) ℕ (UU nD τ) ℕ

variable (V : Dev nD → Valuation τ sig (Elt F))

/-- The operation whose element the branch reads, -/
abbrev readOp : HloOp τ sig (Elt F) :=
  StableHlo.unary main_v18 main_v19 ((extui 32 · natLt_1_32) : (⟨S_, .i1⟩ : BufTy).Contents (Elt F) → (⟨S_, .i32⟩ : BufTy).Contents (Elt F))
/-- the first arm's operations -/
abbrev keepOps : List (HloOp τ sig (Elt F)) :=
  [ StableHlo.unary main_v16_0 main_v20_0 id, StableHlo.unary main_v16_1 main_v20_1 id ]
/-- and the second's after its call. -/
abbrev cutOps : List (HloOp τ sig (Elt F)) :=
  [ StableHlo.unary main_case0b1_v21_0 main_case0b1_v22 ((extractStridedSlice S1024x10 ![0, 0] · slices_S1024x128_S1024x10_0_0) : (⟨S1024x128, .f32⟩ : BufTy).Contents (Elt F) → (⟨S1024x10, .f32⟩ : BufTy).Contents (Elt F)),
    StableHlo.unary main_case0b1_v21_1 main_case0b1_v23 ((extractStridedSlice S1024x10 ![0, 0] · slices_S1024x128_S1024x10_0_0) : (⟨S1024x128, .i32⟩ : BufTy).Contents (Elt F) → (⟨S1024x10, .i32⟩ : BufTy).Contents (Elt F)),
    StableHlo.unary main_case0b1_v22 main_v20_0 id,
    StableHlo.unary main_case0b1_v23 main_v20_1 id ]

/-- Programs of the host. -/
abbrev HProg (α : Type) := Prog (TpuEff nD τ sig (Elt F) (Pipeline.Sig Λ₀ (Fin 2) fun p => (pcfgs (F := F) p).Adm) .tc) α

/-- The read, -/
def rdProg : HProg (F := F) (BitVec 32) := hlo rfl readOp (HostLoop.elt main_v19)
/-- the arms, -/
def arm : Fin 2 → HProg (F := F) PUnit
  | 0 => StableHlo.seq keepOps
  | 1 => Prog.lift (.customCall (Pipeline.entry 1) ()) >>= fun _ => StableHlo.seq cutOps
theorem arm_zero : arm (F := F) 0 = StableHlo.seq keepOps := rfl
theorem arm_one {β : Type} (k : PUnit → HProg (F := F) β) :
    (arm (F := F) 1 >>= k) = .op (.customCall (Pipeline.entry 1) ()) fun _ => StableHlo.seq cutOps >>= k := rfl
/-- and the branch. -/
def item : HProg (F := F) PUnit := rdProg >>= fun x => HostLoop.case 2 x arm

/-- The word read, from the buffers before the read. -/
def word (W : Valuation τ sig (Elt F)) : BitVec 32 :=
  (extui 32 (W main_v18 : (⟨S_, .i1⟩ : BufTy).Contents (Elt F)) natLt_1_32 : (⟨S_, .i32⟩ : BufTy).Contents (Elt F)) HostLoop.idx0

/-- The buffers when the branch is taken, from what the fast call left. -/
def atBranch (W : Valuation τ sig (Elt F)) : Valuation τ sig (Elt F) := StableHlo.after [readOp] (StableHlo.after hostOps1 W)

/-- What the run may leave. -/
def Good (c : Dev nD) (W : Valuation τ sig (Elt F)) : Prop :=
  ∃ W₀, Left V 0 c (V c) W₀ ∧
    ((HostLoop.branch (word (StableHlo.after hostOps1 W₀)) 1 = 0 ∧ W = StableHlo.after keepOps (atBranch W₀))
      ∨ (HostLoop.branch (word (StableHlo.after hostOps1 W₀)) 1 = 1 ∧ ∃ W₁, Left V 1 c (atBranch W₀) W₁ ∧ W = StableHlo.after cutOps W₁))

/-- The states at the second call. -/
def AtCall (c : Dev nD) (W : Valuation τ sig (Elt F)) : Prop :=
  ∃ W₀, Left V 0 c (V c) W₀ ∧ HostLoop.branch (word (StableHlo.after hostOps1 W₀)) 1 = 1 ∧ W = atBranch W₀

/-- A buffer that the fast call leaves alone and that no operation up to the branch writes is as the call found it. -/
theorem atBranch_eq (c : Dev nD) (W₀ : Valuation τ sig (Elt F)) (h : Left V 0 c (V c) W₀) (b : Ref sig .tc)
    (h0 : b ∉ Finset.univ.image (Pipeline.arrRef spec0)) (h1 : b ≠ main_c ∧ b ≠ main_v17 ∧ b ≠ main_c_1 ∧ b ≠ main_v18 ∧ b ≠ main_v19) :
    atBranch W₀ b = V c b := by
  obtain ⟨a1, a2, a3, a4, a5⟩ := h1
  unfold atBranch
  rw [StableHlo.after_of_forall_not_mem (b := Proc.devRef .tc b), StableHlo.after_of_forall_not_mem (b := Proc.devRef .tc b)]
  · exact h.2 b h0
  · intro op hop
    simp only [List.mem_cons, List.mem_nil_iff, or_false] at hop
    rcases hop with rfl | rfl | rfl | rfl <;>
      simp only [StableHlo.unary_writes, StableHlo.binary_writes, StableHlo.nullary_writes, Finset.mem_singleton] <;>
      exact StableHlo.devRef_ne_of_ne ‹_›
  · intro op hop
    simp only [List.mem_cons, List.mem_nil_iff, or_false] at hop
    subst hop
    simp only [StableHlo.unary_writes, Finset.mem_singleton]
    exact StableHlo.devRef_ne_of_ne ‹_›

/-- A windowed array that the fast call only reads is as it found it. -/
theorem left0_in (c : Dev nD) (W W' : Valuation τ sig (Elt F)) (h : Left V 0 c W W') :
    W' main_v10 = V c main_v10 ∧ W' main_v15 = V c main_v15 := by
  have h0 := h.1 (0 : Fin 5)
  have h1 := h.1 (1 : Fin 5)
  have e0 := (rd0 V c).ArrAt_in 0 rfl cfg0.N
  have e1 := (rd0 V c).ArrAt_in 1 rfl cfg0.N
  exact ⟨(congrFun e0 _).mp h0, (congrFun e1 _).mp h1⟩
/-- The same of the plain call. -/
theorem left1_in (c : Dev nD) (W W' : Valuation τ sig (Elt F)) (h : Left V 1 c W W') :
    W' main_v10 = V c main_v10 ∧ W' main_v15 = V c main_v15 := by
  have h0 := h.1 (0 : Fin 4)
  have h1 := h.1 (1 : Fin 4)
  have e0 := (rd1 V c).ArrAt_in 0 rfl cfg1.N
  have e1 := (rd1 V c).ArrAt_in 1 rfl cfg1.N
  exact ⟨(congrFun e0 _).mp h0, (congrFun e1 _).mp h1⟩

/-- The read arrays at the branch. -/
theorem atBranch_in (W₀ : Valuation τ sig (Elt F)) (b : Ref sig .tc) (h1 : b ≠ main_c ∧ b ≠ main_v17 ∧ b ≠ main_c_1 ∧ b ≠ main_v18 ∧ b ≠ main_v19) :
    atBranch W₀ b = W₀ b := by
  obtain ⟨a1, a2, a3, a4, a5⟩ := h1
  unfold atBranch
  rw [StableHlo.after_of_forall_not_mem (b := Proc.devRef .tc b), StableHlo.after_of_forall_not_mem (b := Proc.devRef .tc b)]
  · intro op hop
    simp only [List.mem_cons, List.mem_nil_iff, or_false] at hop
    rcases hop with rfl | rfl | rfl | rfl <;>
      simp only [StableHlo.unary_writes, StableHlo.binary_writes, StableHlo.nullary_writes, Finset.mem_singleton] <;>
      exact StableHlo.devRef_ne_of_ne ‹_›
  · intro op hop
    simp only [List.mem_cons, List.mem_nil_iff, or_false] at hop
    subst hop
    simp only [StableHlo.unary_writes, Finset.mem_singleton]
    exact StableHlo.devRef_ne_of_ne ‹_›

/-- The plain call's arrays when it is entered are as the fast call found them. -/
theorem atCall_arr (c : Dev nD) (W : Valuation τ sig (Elt F)) (h : AtCall V c W) (w : Fin 4) :
    W (Pipeline.arrRef spec1 w) = V c (Pipeline.arrRef spec1 w) := by
  obtain ⟨W₀, h, -, rfl⟩ := h
  fin_cases w
  · exact (atBranch_in W₀ main_v10 (by decide)).trans (left0_in V c _ _ h).1
  · exact (atBranch_in W₀ main_v15 (by decide)).trans (left0_in V c _ _ h).2
  · exact atBranch_eq V c W₀ h main_case0b1_v21_0 (by decide) (by decide)
  · exact atBranch_eq V c W₀ h main_case0b1_v21_1 (by decide) (by decide)

/-- The right half's algebra: the plain call's cells. -/
abbrev EL : Emb (UR sig nD τ) (MT nD τ sig Unit (Elt F) ℕ (UU nD τ) ℕ) := embL
abbrev ER : Emb (UR sig nD τ) (MT nD τ sig Unit (Elt F) ℕ (UU nD τ) ℕ) := embR

/-- What the plain call's cells need. -/
abbrev G1 (c : Dev nD) : sProp 𝕄 :=
  iprop(Pipeline.cellsGhost (Pipeline.pin (pcfgs (F := F)) adm) ER 1 c ∗ Pipeline.toksInit (Pipeline.pin (pcfgs (F := F)) adm) ER 1 c)

set_option backward.isDefEq.respectTransparency.types false in
/-- The operations between the call and the branch. -/
def seg1 : Pipeline.HostSeg (Name := ℕ) (U := UU nD τ) (pcfgs (F := F)) defs₀ 𝒱₀ L lv :=
  Pipeline.HostSeg.ofOpsEx _ _ _ _ _ (Γ := fun c => {W // Left V 0 c (V c) W}) ucRefs hostOps1
    (fun op h => sub_ucRefs op ((List.forall_iff_forall_mem.mp hostOps1_sub) op h))
    (by intro _ h; (repeat (cases h with | head => rfl | tail _ h => ?_)); exact nomatch h) (fun _ W => W.1) (fun c => iprop(Ow c ∗ G1 c))

set_option backward.isDefEq.respectTransparency.types false in
/-- The read. -/
theorem read_spec (c : Dev nD) (W : Valuation τ sig (Elt F)) :
    iprop(boundary (c : Thread nD τ) ∗ StableHlo.held (c : Thread nD τ) ucRefs W)
      ⊢ wp frame (wpE (Pipeline.defs (pcfgs (F := F)) defs₀) (Variants.lift 𝒱₀) (c : Thread nD τ) none) Set.univ (rdProg (F := F))
          (fun v => iprop(⌜v = word W⌝ ∗ boundary (c : Thread nD τ) ∗ StableHlo.held (c : Thread nD τ) ucRefs (StableHlo.after [readOp] W)) : BitVec 32 → sProp 𝕄) := by
  unfold rdProg
  iintro ⟨Hb, Hh⟩
  iapply (StableHlo.wp_hlo_within (Variants.lift 𝒱₀) (c : Thread nD τ) none Set.univ (sub_ucRefs _ (StableHlo.unary_bufs_sub ..))) $$ [Hb Hh]
  · isplitl [Hb]; · iexact Hb
    iexact Hh
  iintro ⟨Hb, Hh⟩
  rw [HostLoop.elt_apply, wp_ret]; imodintro
  isplitr; · ipureintro; rfl
  isplitl [Hb]; · iexact Hb
  rw [StableHlo.after_cons, StableHlo.after_nil]; iexact Hh

/-- What the plain call is entered from -/
theorem reg1_pre (c : Dev nD) : (reg1 V (AtCall V) (atCall_arr V)).pre c
    = iprop((∃ W, ⌜AtCall V c W⌝ ∗ StableHlo.held (c : Thread nD τ) ucRefs W) ∗ Ow c ∗ BI.emp) := rfl
/-- and left at. -/
theorem reg1_post (c : Dev nD) : (reg1 V (AtCall V) (atCall_arr V)).post c
    = iprop((∃ W W', ⌜AtCall V c W ∧ Left V 1 c W W'⌝ ∗ StableHlo.held (c : Thread nD τ) ucRefs W') ∗ Ow c ∗ BI.emp) := rfl

theorem keep_sub : ∀ op ∈ (keepOps (F := F)), op.bufs ⊆ ucRefs := fun op h => sub_ucRefs op (by
  simp only [List.mem_cons, List.mem_nil_iff, or_false] at h
  rcases h with rfl | rfl <;> exact StableHlo.unary_bufs_sub ..)
theorem cut_sub : ∀ op ∈ (cutOps (F := F)), op.bufs ⊆ ucRefs := fun op h => sub_ucRefs op (by
  simp only [List.mem_cons, List.mem_nil_iff, or_false] at h
  rcases h with rfl | rfl | rfl | rfl <;> exact StableHlo.unary_bufs_sub ..)
theorem keep_fresh : ∀ op ∈ (keepOps (F := F)), op.fresh = ∅ := fun op h => by
  simp only [List.mem_cons, List.mem_nil_iff, or_false] at h
  rcases h with rfl | rfl <;> rfl
theorem cut_fresh : ∀ op ∈ (cutOps (F := F)), op.fresh = ∅ := fun op h => by
  simp only [List.mem_cons, List.mem_nil_iff, or_false] at h
  rcases h with rfl | rfl | rfl | rfl <;> rfl

/-- What a branch may leave, and the core owing nothing. -/
abbrev Done (c : Dev nD) : sProp 𝕄 := iprop((∃ W, ⌜Good V c W⌝ ∗ StableHlo.held (c : Thread nD τ) ucRefs W) ∗ Ow c)

set_option backward.isDefEq.respectTransparency.types false in
/-- The first arm. -/
theorem arm0_run (c : Dev nD) {β : Type} (k : PUnit → HProg (F := F) β) (K : β → sProp 𝕄) (W₀ : Valuation τ sig (Elt F)) (hW₀ : Left V 0 c (V c) W₀)
    (hb : HostLoop.branch (word (StableHlo.after hostOps1 W₀)) 1 = 0) :
    iprop((iprop(boundary (c : Thread nD τ) ∗ Done V c) -∗ wp frame (wpE (Pipeline.defs (pcfgs (F := F)) defs₀) (Variants.lift 𝒱₀) (c : Thread nD τ) none) Set.univ (k ⟨⟩) K)
        ∗ boundary (c : Thread nD τ) ∗ StableHlo.held (c : Thread nD τ) ucRefs (atBranch W₀) ∗ Ow c)
      ⊢ wp frame (wpE (Pipeline.defs (pcfgs (F := F)) defs₀) (Variants.lift 𝒱₀) (c : Thread nD τ) none) Set.univ (arm (F := F) 0 >>= k) K := by
  have hseq := StableHlo.wp_seq (defs := Pipeline.defs (pcfgs (F := F)) defs₀) (Variants.lift 𝒱₀) none Set.univ c ucRefs k (K := K) keepOps
    keep_sub keep_fresh (atBranch W₀)
  rw [arm_zero]
  iintro ⟨Hk, Hbd, Hh, HO⟩
  iapply hseq $$ [Hbd Hh]
  · isplitl [Hbd] <;> iassumption
  iintro ⟨Hbd, Hh⟩
  iapply Hk
  isplitl [Hbd]; · iexact Hbd
  isplitr [HO]
  · iexists _; isplitr; swap; (· iexact Hh); ipureintro; exact ⟨W₀, hW₀, .inl ⟨hb, rfl⟩⟩
  iexact HO

set_option backward.isDefEq.respectTransparency.types false in
/-- The second. -/
theorem arm1_run (c : Dev nD) {β : Type} (k : PUnit → HProg (F := F) β) (K : β → sProp 𝕄) (W₀ : Valuation τ sig (Elt F)) (hW₀ : Left V 0 c (V c) W₀)
    (hb : HostLoop.branch (word (StableHlo.after hostOps1 W₀)) 1 = 1) :
    iprop((iprop(boundary (c : Thread nD τ) ∗ Done V c) -∗ wp frame (wpE (Pipeline.defs (pcfgs (F := F)) defs₀) (Variants.lift 𝒱₀) (c : Thread nD τ) none) Set.univ (k ⟨⟩) K)
        ∗ boundary (c : Thread nD τ) ∗ StableHlo.held (c : Thread nD τ) ucRefs (atBranch W₀) ∗ Ow c ∗ levAts L lv ∗ G1 c)
      ⊢ wp frame (wpE (Pipeline.defs (pcfgs (F := F)) defs₀) (Variants.lift 𝒱₀) (c : Thread nD τ) none) Set.univ (arm (F := F) 1 >>= k) K := by
  have hreg := RDat.RegionSeg.wp (pcfgs (F := F)) adm (rdats V) () cellOf_inj ER defs₀ 𝒱₀ L lv (reg1 V (AtCall V) (atCall_arr V)) c none (by simp)
    (fun _ => StableHlo.seq cutOps >>= k) K
  rw [reg1_pre, reg1_post] at hreg
  rw [arm_one]
  iintro ⟨Hk, Hbd, Hh, HO, Hla, HG⟩
  iapply hreg
  isplitl [Hk]
  · iintro ⟨Hbd, ⟨%W, %W₁, %hW, Hh⟩, HO, -⟩
    have hseq := StableHlo.wp_seq (defs := Pipeline.defs (pcfgs (F := F)) defs₀) (Variants.lift 𝒱₀) none Set.univ c ucRefs k (K := K) cutOps
      cut_sub cut_fresh W₁
    iapply hseq $$ [Hbd Hh]
    · isplitl [Hbd] <;> iassumption
    iintro ⟨Hbd, Hh⟩
    iapply Hk
    isplitl [Hbd]; · iexact Hbd
    isplitr [HO]
    · iexists _; isplitr; swap; (· iexact Hh); ipureintro
      obtain ⟨⟨W₀', h1, h2, rfl⟩, h3⟩ := hW
      exact ⟨W₀', h1, .inr ⟨h2, W₁, h3, rfl⟩⟩
    iexact HO
  isplitl [Hbd]; · iexact Hbd
  isplitl [Hh HO]
  · isplitl [Hh]
    · iexists _; isplitr; swap; (· iexact Hh); ipureintro; exact ⟨W₀, hW₀, hb, rfl⟩
    isplitl [HO]; · iexact HO
    iempintro
  isplitl [Hla]; · iexact Hla
  iexact HG

theorem case_two (x : BitVec 32) : HostLoop.case 2 x (arm (F := F)) = arm (HostLoop.branch x 1) := HostLoop.case_succ x arm
theorem fin2_cases (b : Fin 2) : b = 0 ∨ b = 1 := by revert b; decide

set_option backward.isDefEq.respectTransparency.types false in
/-- The branch. -/
theorem item_run (c : Dev nD) {β : Type} (k : PUnit → HProg (F := F) β) (K : β → sProp 𝕄) (W₀ : Valuation τ sig (Elt F)) (hW₀ : Left V 0 c (V c) W₀) :
    iprop((iprop(boundary (c : Thread nD τ) ∗ Done V c) -∗ wp frame (wpE (Pipeline.defs (pcfgs (F := F)) defs₀) (Variants.lift 𝒱₀) (c : Thread nD τ) none) Set.univ (k ⟨⟩) K)
        ∗ boundary (c : Thread nD τ) ∗ StableHlo.held (c : Thread nD τ) ucRefs (StableHlo.after hostOps1 W₀) ∗ Ow c ∗ levAts L lv ∗ G1 c)
      ⊢ wp frame (wpE (Pipeline.defs (pcfgs (F := F)) defs₀) (Variants.lift 𝒱₀) (c : Thread nD τ) none) Set.univ (item (F := F) >>= k) K := by
  unfold item
  rw [Prog.bind_assoc, wp_bind]
  iintro ⟨Hk, Hbd, Hh, HO, Hla, HG⟩
  iapply (wp_wand_r Idealize.ShloMosaic.frame _ Set.univ)
  isplitl [Hbd Hh]
  · iapply (read_spec c (StableHlo.after hostOps1 W₀))
    isplitl [Hbd] <;> iassumption
  iintro %x ⟨%hx, Hbd, Hh⟩
  rw [case_two]
  rcases fin2_cases (HostLoop.branch x 1) with hb | hb
  · rw [hb]
    rw [hx] at hb
    iapply (arm0_run V c k K W₀ hW₀ hb)
    isplitl [Hk]; · iexact Hk
    isplitl [Hbd]; · iexact Hbd
    isplitl [Hh]; · iexact Hh
    iexact HO
  · rw [hb]
    rw [hx] at hb
    iapply (arm1_run V c k K W₀ hW₀ hb)
    isplitl [Hk]; · iexact Hk
    isplitl [Hbd]; · iexact Hbd
    isplitl [Hh]; · iexact Hh
    isplitl [HO]; · iexact HO
    isplitl [Hla]; · iexact Hla
    iexact HG

set_option backward.isDefEq.respectTransparency.types false in
/-- The branch as a segment. -/
def seg2 : Pipeline.HostSeg (Name := ℕ) (U := UU nD τ) (pcfgs (F := F)) defs₀ 𝒱₀ L lv where
  prog := item
  pre c := iprop((∃ γ : {W // Left V 0 c (V c) W}, StableHlo.held (c : Thread nD τ) ucRefs (StableHlo.after hostOps1 γ.1)) ∗ Ow c ∗ G1 c)
  post c := Done V c
  run c {β} k K := by
    iintro ⟨Hk, Hbd, ⟨⟨%γ, Hh⟩, HO, HG⟩, Hla⟩
    iapply (item_run V c k K γ.1 γ.2)
    isplitl [Hk]; · iexact Hk
    isplitl [Hbd]; · iexact Hbd
    isplitl [Hh]; · iexact Hh
    isplitl [HO]; · iexact HO
    isplitl [Hla]; · iexact Hla
    iexact HG

end Cert.Kernel.Body

end
-- ==== Proof.RunMain.lean ====
/-
  The kernel's run: @main's segments in order, and what every final state has.
-/
module

public import proofs.«01_k».proof.Proof.Run

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Rounds
open Idealize.ShloMosaic.Pipeline (RDat Cfg Window)

variable {F : FTy → Type} [FloatOps F]

local notation "𝕄" => MT nD τ sig Unit (Elt F) ℕ (UU nD τ) ℕ

variable (m : (ℓ : Loc nD τ sig) → Buf (Elt F) ℓ) (ρ : Dev nD → PrngReg)

/-- Core `c`'s buffers at launch, -/
abbrev Vl (c : Dev nD) : Valuation τ sig (Elt F) := fun b => m (c, b)
/-- after each stretch of host operations, -/
def V1 (c : Dev nD) : Valuation τ sig (Elt F) := StableHlo.after hostOps0 (Vl m c)
def V2 (c : Dev nD) : Valuation τ sig (Elt F) := StableHlo.after hostOps0_1 (V1 m c)
def V3 (c : Dev nD) : Valuation τ sig (Elt F) := StableHlo.after hostOps0_2 (V2 m c)
def V4 (c : Dev nD) : Valuation τ sig (Elt F) := StableHlo.after hostOps0_3 (V3 m c)
/-- and when the fast call is entered. -/
def V5 (c : Dev nD) : Valuation τ sig (Elt F) := StableHlo.after hostOps0_4 (V4 m c)

/-- A stretch of host operations as a segment. -/
def hostSeg (ops : List (HloOp τ sig (Elt F))) (hs : ops.Forall fun op => op.bufs ⊆ StableHlo.tcRefs τ sig) (hf : ∀ op ∈ ops, op.fresh = ∅)
    (V : Dev nD → Valuation τ sig (Elt F)) : Pipeline.HostSeg (Name := ℕ) (U := UU nD τ) (pcfgs (F := F)) defs₀ 𝒱₀ L lv :=
  Pipeline.HostSeg.ofOps _ _ _ _ _ ucRefs ops (fun op h => sub_ucRefs op ((List.forall_iff_forall_mem.mp hs) op h)) hf V (fun c => iprop(Ow c ∗ G1 c))

theorem fresh0 : ∀ op ∈ (hostOps0 (F := F)), op.fresh = ∅ := by intro _ h; (repeat (cases h with | head => rfl | tail _ h => ?_)); exact nomatch h
theorem fresh1 : ∀ op ∈ (hostOps0_1 (F := F)), op.fresh = ∅ := by intro _ h; (repeat (cases h with | head => rfl | tail _ h => ?_)); exact nomatch h
theorem fresh2 : ∀ op ∈ (hostOps0_2 (F := F)), op.fresh = ∅ := by intro _ h; (repeat (cases h with | head => rfl | tail _ h => ?_)); exact nomatch h
theorem fresh3 : ∀ op ∈ (hostOps0_3 (F := F)), op.fresh = ∅ := by intro _ h; (repeat (cases h with | head => rfl | tail _ h => ?_)); exact nomatch h
theorem fresh4 : ∀ op ∈ (hostOps0_4 (F := F)), op.fresh = ∅ := by intro _ h; (repeat (cases h with | head => rfl | tail _ h => ?_)); exact nomatch h

/-- @main's segments. -/
abbrev segs : List (RDat.Seg (pcfgs (F := F)) adm (rdats (V5 m)) () defs₀ 𝒱₀ L lv) :=
  [ .host (hostSeg hostOps0 hostOps0_sub fresh0 (Vl m)), .host (hostSeg hostOps0_1 hostOps0_1_sub fresh1 (V1 m)),
    .host (hostSeg hostOps0_2 hostOps0_2_sub fresh2 (V2 m)), .host (hostSeg hostOps0_3 hostOps0_3_sub fresh3 (V3 m)),
    .host (hostSeg hostOps0_4 hostOps0_4_sub fresh4 (V4 m)), .region (reg0 (V5 m) G1), .host (seg1 (V5 m)), .host (seg2 (V5 m)) ]

/-- The launch element: the library's, once for each half. -/
def u₀ : UU nD τ := (initOf (Pipeline.cells cfgs cellOf_inj) (Pipeline.launchToks cfgs cellOf_inj), initOf (Pipeline.cells cfgs cellOf_inj) (Pipeline.launchToks cfgs cellOf_inj))

/-- What every final state has, on each core: its buffers at contents that the run may leave. -/
def Final (c : Dev nD) (s : MemSt nD τ sig (Elt F)) : Prop :=
  ∃ W, Good (V5 m) c W ∧ ∀ b ∈ ucRefs, s.mem (c, b) = W b

theorem deal1 : iprop((bigSep Finset.univ fun c : Dev nD => bigSep Finset.univ fun p : Fin 2 => Pipeline.cellsGhost (Pipeline.pin (pcfgs (F := F)) adm) ER p c)
      ∗ bigSep Finset.univ fun c : Dev nD => bigSep Finset.univ fun p : Fin 2 => Pipeline.toksInit (Pipeline.pin (pcfgs (F := F)) adm) ER p c)
    ⊢ (bigSep Finset.univ fun c : Dev nD => G1 (F := F) c : sProp 𝕄) := by
  unfold G1
  rw [bigSep_sep']
  refine BIClass.sep_mono (bigSep_mono fun c _ => ?_) (bigSep_mono fun c _ => ?_)
  · exact bigSep_elim (Φ := fun p : Fin 2 => Pipeline.cellsGhost (Pipeline.pin (pcfgs (F := F)) adm) ER p c) (Finset.mem_univ (1 : Fin 2))
  · exact bigSep_elim (Φ := fun p : Fin 2 => Pipeline.toksInit (Pipeline.pin (pcfgs (F := F)) adm) ER p c) (Finset.mem_univ (1 : Fin 2))

set_option backward.isDefEq.respectTransparency.types false in
/-- The launch element pays both halves. -/
theorem fund : (ownU u₀ : sProp 𝕄) ⊢ |={Set.univ}=> iprop(BI.own (EL (initOf (Pipeline.cells (Pipeline.pin (pcfgs (F := F)) adm) cellOf_inj)
    (Pipeline.launchToks (Pipeline.pin (pcfgs (F := F)) adm) cellOf_inj))) ∗ bigSep Finset.univ (fun c : Dev nD => G1 c)) := by
  unfold u₀
  iintro Hu
  ihave H := (ownU_pair _ _) $$ Hu
  icases H with ⟨HP, HR⟩
  ihave HR := (Pipeline.fund_ghost (Pipeline.pin (pcfgs (F := F)) adm) (ER (F := F)) cellOf_inj) $$ HR
  imod HR with ⟨H1, H2⟩
  imodintro
  isplitl [HP]; · iexact HP
  iapply (deal1 (F := F)) $$ [H1 H2]
  isplitl [H1]; · iexact H1
  iexact H2

theorem enter (c : Dev nD) : iprop(StableHlo.held (c : Thread nD τ) ucRefs (V5 m c) ∗ Ow c ∗ G1 (F := F) c)
    ⊢ (reg0 (V5 m) G1).pre c := by
  rw [show (reg0 (V5 m) G1).pre c = iprop((∃ W, ⌜W = V5 m c⌝ ∗ StableHlo.held (c : Thread nD τ) ucRefs W) ∗ Ow c ∗ G1 c) from rfl]
  iintro ⟨Hh, H⟩
  isplitl [Hh]
  · iexists _; isplitr; swap; (· iexact Hh); ipureintro; rfl
  iexact H

theorem leave (c : Dev nD) : (reg0 (V5 m) G1).post c ⊢ (seg1 (V5 m)).pre c := by
  rw [show (reg0 (V5 m) G1).post c = iprop((∃ W W', ⌜W = V5 m c ∧ Left (V5 m) 0 c W W'⌝ ∗ StableHlo.held (c : Thread nD τ) ucRefs W') ∗ Ow c ∗ G1 c) from rfl,
    show (seg1 (V5 m)).pre c = iprop((∃ γ : {W // Left (V5 m) 0 c (V5 m c) W}, StableHlo.held (c : Thread nD τ) ucRefs γ.1) ∗ Ow c ∗ G1 c) from rfl]
  iintro ⟨⟨%W, %W', %h, Hh⟩, H⟩
  isplitl [Hh]
  · iexists (⟨W', h.1 ▸ h.2⟩ : {W // Left (V5 m) 0 c (V5 m c) W}); iexact Hh
  iexact H

/-- @main is its segments run in order. -/
theorem main_run (c : Dev nD) : main (F := F) c = RDat.Seg.run (segs m) := by
  rw [main_chain, RDat.Seg.run_eq_chain]
  show _ = Pipeline.chain [StableHlo.seq hostOps0, StableHlo.seq hostOps0_1, StableHlo.seq hostOps0_2, StableHlo.seq hostOps0_3, StableHlo.seq hostOps0_4,
    Prog.lift (.customCall (Pipeline.entry 0) ()), StableHlo.seq hostOps1, item]
  refine congrArg Pipeline.chain ?_
  repeat refine congrArg₂ List.cons rfl ?_
  refine congrArg₂ List.cons ?_ rfl
  unfold item
  refine congrArg₂ (fun (a : HProg (F := F) (BitVec 32)) (b : BitVec 32 → HProg (F := F) PUnit) => a >>= b) rfl (funext fun x => congrArg (HostLoop.case 2 x) (funext fun i => ?_))
  rcases fin2_cases i with h | h <;> subst h <;> rfl

/-- The segments' ends meet. -/
theorem chains : RDat.Seg.Chains (fun c => iprop(StableHlo.held (c : Thread nD τ) ucRefs (Vl m c) ∗ Ow c ∗ G1 c)) (segs m)
    fun c => iprop((∃ W, ⌜Good (V5 m) c W⌝ ∗ StableHlo.held (c : Thread nD τ) ucRefs W) ∗ ∃ W, owes (c : Thread nD τ) (0 : CellTallies nD τ sig Unit) W) :=
  ⟨fun _ => .rfl, fun _ => .rfl, fun _ => .rfl, fun _ => .rfl, fun _ => .rfl, enter m, leave m, fun _ => .rfl, fun _ => .rfl⟩

set_option backward.isDefEq.respectTransparency.types false in
/-- Every weakly fair execution of @main terminates, and every final state has what the run may leave and every counter at zero. -/
theorem run_main : θ_run (defs (F := F)) (onTc (τ := τ) (main (F := F))) ⟨m, fun _ => 0, ρ⟩ (fun r => (∀ c, Final m c r.2) ∧ r.2.sem = fun _ => 0) :=
  RDat.θ_run_regions_kit_sems (pcfgs (F := F)) adm (rdats (V5 m)) () cellOf_inj EL defs₀ 𝒱₀ L lv m ρ main (segs m)
    (fun c Q => by rw [main_run m c])
    (by simp only [RDat.Seg.pipes_host, RDat.Seg.pipes_region, RDat.Seg.pipes_nil]; decide) (O₀ := 0) (hL := fun _ _ => rfl) (G := fun c => G1 c) (u₀ := u₀)
    (hu₀ := fund)
    (T₀ := fun c => iprop(StableHlo.held (c : Thread nD τ) ucRefs (Vl m c) ∗ Ow c ∗ G1 c)) (Tₙ := fun c => iprop(∃ W, ⌜Good (V5 m) c W⌝ ∗ StableHlo.held (c : Thread nD τ) ucRefs W))
    (hch := chains m)
    (hinit := by
      refine Pipeline.initEach L lv fun c => ?_
      rw [show unscopedBufs c (fun b => m ((c : Thread nD τ).loc b)) = StableHlo.held (c : Thread nD τ) ucRefs (Vl m c) from unscopedBufs_held c (Vl m c)]
      iintro ⟨⟨Hh, -, HO, -, -, HG⟩, -⟩
      imodintro
      isplitl [Hh]; · iexact Hh
      isplitl [HO]; · iexists ∅; iexact HO
      iexact HG)
    (QY := fun c s => Final m c s)
    (hfin := fun c s' => by
      iintro ⟨⟨%W, %hW, Hh⟩, HSI⟩
      ihave Hr := (pointsTo_read_all' ucRefs (fun b => ((c : Thread nD τ).1, b)) (fun b => W b) s' fun _ => fullShare) $$ [Hh HSI]
      · isplitl [Hh]
        · unfold StableHlo.held; iexact Hh
        iexact HSI
      icases Hr with ⟨%ha, HSI⟩
      imodintro
      isplitr; · ipureintro; exact ⟨W, hW, ha⟩
      iexact HSI)
    (hQ := fun _ h hz => ⟨h, funext fun g => hz g (.inr (by revert g; decide))⟩)

end Cert.Kernel.Body

end
-- ==== Proof.Frame.lean ====
/-
  The arguments are as they were, for the three programs.
-/
module

public import proofs.«01_k».proof.Proof.RunMain
public import proofs.«01_k».proof.Defs
public import proofs.«01_k».proof.Proof.Gen.KernelIdeal
public import proofs.«01_k».proof.Proof.Gen.ReferenceIdeal

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Pipeline (RDat Cfg Window)

variable {F : FTy → Type} [FloatOps F]

local notation "𝕄" => MT nD τ sig Unit (Elt F) ℕ (UU nD τ) ℕ

/-- A buffer that no host operation of a list writes is as it was. -/
theorem after_other (ops : List (HloOp τ sig (Elt F))) (b : Ref sig .tc) (W : Valuation τ sig (Elt F)) (h : ∀ op ∈ ops, Proc.devRef .tc b ∉ op.writes) :
    StableHlo.after ops W b = W b := StableHlo.after_of_forall_not_mem (b := Proc.devRef .tc b) ops W h

/-- The host operations write none of the arguments. -/
theorem args_not_written (b : Ref sig .tc) (hb : b = main_arg0 ∨ b = main_arg1 ∨ b = main_arg2) :
    (∀ op ∈ (hostOps0 (F := F)), Proc.devRef .tc b ∉ op.writes) ∧ (∀ op ∈ (hostOps0_1 (F := F)), Proc.devRef .tc b ∉ op.writes)
    ∧ (∀ op ∈ (hostOps0_2 (F := F)), Proc.devRef .tc b ∉ op.writes) ∧ (∀ op ∈ (hostOps0_3 (F := F)), Proc.devRef .tc b ∉ op.writes)
    ∧ (∀ op ∈ (hostOps0_4 (F := F)), Proc.devRef .tc b ∉ op.writes) ∧ (∀ op ∈ (keepOps (F := F)), Proc.devRef .tc b ∉ op.writes)
    ∧ (∀ op ∈ (cutOps (F := F)), Proc.devRef .tc b ∉ op.writes) := by
  simp only [keepOps, cutOps, List.mem_cons, forall_eq_or_imp, List.not_mem_nil, IsEmpty.forall_iff, implies_true, and_true,
    StableHlo.TRef.unary, StableHlo.TRef.binary, StableHlo.TRef.nullary, StableHlo.unary_writes, StableHlo.binary_writes, StableHlo.nullary_writes, Finset.mem_singleton]
  repeat' apply And.intro
  all_goals
    refine StableHlo.devRef_ne_of_ne ?_
    rcases hb with rfl | rfl | rfl <;> decide

variable (m : (ℓ : Loc nD τ sig) → Buf (Elt F) ℓ) (ρ : Dev nD → PrngReg)

/-- The calls find the arguments as they were at launch. -/
theorem V5_arg (c : Dev nD) (b : Ref sig .tc) (hb : b = main_arg0 ∨ b = main_arg1 ∨ b = main_arg2) : V5 m c b = m (c, b) := by
  obtain ⟨h0, h1, h2, h3, h4, -, -⟩ := args_not_written (F := F) b hb
  unfold V5 V4 V3 V2 V1
  rw [after_other _ b _ h4, after_other _ b _ h3, after_other _ b _ h2, after_other _ b _ h1, after_other _ b _ h0]

/-- What the run may leave has the arguments as they were. -/
theorem good_arg (V : Dev nD → Valuation τ sig (Elt F)) (c : Dev nD) (W : Valuation τ sig (Elt F)) (h : Good V c W) (b : Ref sig .tc) (hb : b = main_arg0 ∨ b = main_arg1 ∨ b = main_arg2) : W b = V c b := by
  obtain ⟨-, -, -, -, -, h5, h6⟩ := args_not_written (F := F) b hb
  have n0 : b ∉ Finset.univ.image (Pipeline.arrRef spec0) := by rcases hb with rfl | rfl | rfl <;> decide
  have n1 : b ∉ Finset.univ.image (Pipeline.arrRef spec1) := by rcases hb with rfl | rfl | rfl <;> decide
  have n2 : b ≠ main_c ∧ b ≠ main_v17 ∧ b ≠ main_c_1 ∧ b ≠ main_v18 ∧ b ≠ main_v19 := by rcases hb with rfl | rfl | rfl <;> decide
  obtain ⟨W₀, h₀, ⟨-, rfl⟩ | ⟨-, W₁, h₁, rfl⟩⟩ := h
  · rw [after_other _ b _ h5]; exact atBranch_eq V c W₀ h₀ b n0 n2
  · rw [after_other _ b _ h6]; exact (h₁.2 b n1).trans (atBranch_eq V c W₀ h₀ b n0 n2)

/-- Every final state has the arguments as they were. -/
theorem final_arg (c : Dev nD) (s : MemSt nD τ sig (Elt F)) (h : Final m c s) (b : Ref sig .tc) (hb : b = main_arg0 ∨ b = main_arg1 ∨ b = main_arg2) :
    s.mem ((c : Thread nD τ).loc b) = m ((c : Thread nD τ).loc b) := by
  obtain ⟨W, hg, hW⟩ := h
  have hu : (b : DevRef τ sig) ∈ ucRefs := by rcases hb with rfl | rfl | rfl <;> decide
  exact (hW b hu).trans ((good_arg _ c W hg b hb).trans (V5_arg m c b hb))

/-- The frame claim, for any float values. -/
def FrameAt (F : FTy → Type) [FloatOps F] [hKernel : Cert.Kernel.Facts] : Prop :=
  ∀ (m : (ℓ : Loc Cert.Kernel.nD Cert.Kernel.τ Cert.Kernel.sig) → Buf (Elt F) ℓ) (g : Dev Cert.Kernel.nD → PrngReg), True →
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

theorem frameAt : FrameAt F (hKernel := Cert.Kernel.Gen.facts) := fun m g _ =>
  (θ_run _ _ _).mono (fun r h => ⟨fun c => ⟨final_arg m c r.2 (h.1 c) main_arg0 (.inl rfl), final_arg m c r.2 (h.1 c) main_arg1 (.inr (.inl rfl)),
    final_arg m c r.2 (h.1 c) main_arg2 (.inr (.inr rfl))⟩, h.2⟩) (run_main m g)

theorem frame_kernel : Cert.quiescent_Kernel (hKernel := Cert.Kernel.Gen.facts) := frameAt (F := Bits)

/-- The idealization is the same program. -/
theorem frame_ideal_eq : FrameAt Ideal (hKernel := Cert.Kernel.Gen.facts) = Cert.quiescent_KernelIdeal (hKernelIdeal := Cert.KernelIdeal.Gen.facts) := by chain_rfl
theorem frame_ideal : Cert.quiescent_KernelIdeal (hKernelIdeal := Cert.KernelIdeal.Gen.facts) := frame_ideal_eq ▸ frameAt (F := Ideal)

end Cert.Kernel.Body

end
-- ==== Proof.Ranks.lean ====
/-
  The least elements of a finite set of a linear order, taken away one at a time, and what a smaller set must hold for its
  `n` least elements to be those of a larger one.
-/
module

public import Mathlib.Data.Finset.Max
public import Mathlib.Data.Finset.Card
public import Mathlib.Logic.Function.Iterate
public import Mathlib.Tactic.Common

@[expose] public section

namespace Cert.Kernel.Ranks

variable {K : Type} [LinearOrder K]

/-- A set without its least element. -/
def peel (A : Finset K) : Finset K := if h : A.Nonempty then A.erase (A.min' h) else ∅

theorem peel_of_nonempty {A : Finset K} (h : A.Nonempty) : peel A = A.erase (A.min' h) := dif_pos h

theorem peel_empty : peel (∅ : Finset K) = ∅ := dif_neg Finset.not_nonempty_empty

theorem peel_subset (A : Finset K) : peel A ⊆ A := by
  unfold peel; split
  · exact Finset.erase_subset _ _
  · exact Finset.empty_subset _

/-- A set without its `n` least elements. -/
def drop (n : ℕ) (A : Finset K) : Finset K := peel^[n] A

theorem drop_succ (n : ℕ) (A : Finset K) : drop (n + 1) A = drop n (peel A) := rfl

theorem drop_succ' (n : ℕ) (A : Finset K) : drop (n + 1) A = peel (drop n A) := Function.iterate_succ_apply' _ _ _

theorem drop_empty (n : ℕ) : drop n (∅ : Finset K) = ∅ := by
  induction n with
  | zero => rfl
  | succ n ih => rw [drop_succ, peel_empty, ih]

theorem drop_subset (n : ℕ) (A : Finset K) : drop n A ⊆ A := by
  induction n generalizing A with
  | zero => exact Finset.Subset.refl _
  | succ n ih => exact (ih (peel A)).trans (peel_subset A)

theorem drop_anti {i j : ℕ} (h : i ≤ j) (A : Finset K) : drop j A ⊆ drop i A := by
  induction h with
  | refl => exact Finset.Subset.refl _
  | step _ ih => rw [drop_succ']; exact (peel_subset _).trans ih

/-- The `n` least elements. -/
def top (n : ℕ) (A : Finset K) : Finset K := A \ drop n A

theorem top_subset (n : ℕ) (A : Finset K) : top n A ⊆ A := Finset.sdiff_subset

theorem top_empty (n : ℕ) : top n (∅ : Finset K) = ∅ := by unfold top; rw [Finset.empty_sdiff]

theorem top_succ (n : ℕ) {A : Finset K} (h : A.Nonempty) : top (n + 1) A = insert (A.min' h) (top n (peel A)) := by
  ext x
  simp only [top, Finset.mem_sdiff, Finset.mem_insert, drop_succ]
  by_cases hx : x = A.min' h
  · subst hx
    refine ⟨fun _ => Or.inl rfl, fun _ => ⟨A.min'_mem h, fun hm => ?_⟩⟩
    have := drop_subset n _ hm
    rw [peel_of_nonempty h] at this
    exact Finset.notMem_erase _ _ this
  · have : x ∈ peel A ↔ x ∈ A := by rw [peel_of_nonempty h, Finset.mem_erase]; exact and_iff_right hx
    rw [this]
    exact ⟨fun h => Or.inr h, fun h => h.resolve_left hx⟩

theorem card_top_le (n : ℕ) (A : Finset K) : (top n A).card ≤ n := by
  induction n generalizing A with
  | zero => show (A \ A).card ≤ 0; rw [Finset.sdiff_self]; exact Nat.le_refl _
  | succ n ih =>
    by_cases h : A.Nonempty
    · rw [top_succ n h]
      exact (Finset.card_insert_le _ _).trans (Nat.succ_le_succ (ih _))
    · rw [Finset.not_nonempty_iff_eq_empty.mp h, top_empty]; simp

/-- Enough elements leave some after `i` are taken away. -/
theorem drop_nonempty {i : ℕ} {A : Finset K} (h : i < A.card) : (drop i A).Nonempty := by
  by_contra hn
  rw [Finset.not_nonempty_iff_eq_empty] at hn
  have := card_top_le i A
  rw [top, hn, Finset.sdiff_empty] at this
  omega

/-- Each element left is above `n` of those taken away. -/
theorem below_of_drop (n : ℕ) (A : Finset K) (x : K) (hx : x ∈ drop n A) : n ≤ ((top n A).filter (· < x)).card := by
  induction n generalizing A with
  | zero => exact Nat.zero_le _
  | succ n ih =>
    have hA : A.Nonempty := ⟨x, drop_subset _ _ hx⟩
    rw [top_succ n hA]
    rw [drop_succ] at hx
    have hxp := drop_subset n _ hx
    have hmx : A.min' hA < x := by
      rw [peel_of_nonempty hA, Finset.mem_erase] at hxp
      exact lt_of_le_of_ne (A.min'_le x hxp.2) (Ne.symm hxp.1)
    rw [Finset.filter_insert, if_pos hmx, Finset.card_insert_of_notMem]
    · exact Nat.succ_le_succ (ih _ hx)
    · intro h
      have := top_subset n _ (Finset.mem_filter.mp h).1
      rw [peel_of_nonempty hA] at this
      exact Finset.notMem_erase _ _ this

/-- `C` holds the `n` least elements of `A`: what it leaves out is above `n` of its own. -/
def Holds (n : ℕ) (C A : Finset K) : Prop := C ⊆ A ∧ ∀ x ∈ A, x ∉ C → n ≤ (C.filter (· < x)).card

theorem Holds.refl (n : ℕ) (A : Finset K) : Holds n A A := ⟨Finset.Subset.refl _, fun _ h h' => absurd h h'⟩

theorem Holds.top (n : ℕ) (A : Finset K) : Holds n (top n A) A :=
  ⟨top_subset n A, fun x hx hn => below_of_drop n A x (by
    by_contra h
    exact hn (Finset.mem_sdiff.mpr ⟨hx, h⟩))⟩

theorem Holds.union {n : ℕ} {C A C' A' : Finset K} (h : Holds n C A) (h' : Holds n C' A') : Holds n (C ∪ C') (A ∪ A') := by
  refine ⟨Finset.union_subset_union h.1 h'.1, fun x hx hn => ?_⟩
  rw [Finset.mem_union, not_or] at hn
  rcases Finset.mem_union.mp hx with hx | hx
  · exact (h.2 x hx hn.1).trans (Finset.card_le_card (Finset.filter_subset_filter _ Finset.subset_union_left))
  · exact (h'.2 x hx hn.2).trans (Finset.card_le_card (Finset.filter_subset_filter _ Finset.subset_union_right))

theorem Holds.trans {n : ℕ} {D C A : Finset K} (h : Holds n D C) (h' : Holds n C A) : Holds n D A := by
  refine ⟨h.1.trans h'.1, fun x hx hn => ?_⟩
  by_cases hC : x ∈ C
  · exact h.2 x hC hn
  by_cases hs : C.filter (· < x) ⊆ D
  · refine (h'.2 x hx hC).trans (Finset.card_le_card fun y hy => ?_)
    exact Finset.mem_filter.mpr ⟨hs hy, (Finset.mem_filter.mp hy).2⟩
  · obtain ⟨y, hy, hyD⟩ := Finset.not_subset.mp hs
    rw [Finset.mem_filter] at hy
    refine (h.2 y hy.1 hyD).trans (Finset.card_le_card fun z hz => ?_)
    rw [Finset.mem_filter] at hz ⊢
    exact ⟨hz.1, hz.2.trans hy.2⟩

/-- A set that holds the `n` least of a set of at least `n` has at least `n`. -/
theorem Holds.card {n : ℕ} {C A : Finset K} (h : Holds n C A) (hA : n ≤ A.card) : n ≤ C.card := by
  by_contra hlt
  have : ¬ A ⊆ C := fun hs => by have := Finset.card_le_card hs; omega
  obtain ⟨x, hx, hxC⟩ := Finset.not_subset.mp this
  have := (h.2 x hx hxC).trans (Finset.card_le_card (Finset.filter_subset _ _))
  omega

section Listed

variable {n : ℕ} {C : Finset K} (hne : ∀ i, i < n → (drop i C).Nonempty)

/-- The elements taken away, in order. -/
def nth (i : Fin n) : K := (drop i.val C).min' (hne i.val i.isLt)

theorem nth_mem (i : Fin n) : nth hne i ∈ drop i.val C := Finset.min'_mem _ _

theorem nth_lt {i j : Fin n} (h : i < j) : nth hne i < nth hne j := by
  have hj : nth hne j ∈ drop (i.val + 1) C := drop_anti (by exact h) C (nth_mem hne j)
  rw [drop_succ', peel_of_nonempty (hne i.val i.isLt), Finset.mem_erase] at hj
  exact lt_of_le_of_ne (Finset.min'_le _ _ hj.2) (Ne.symm hj.1)

/-- An element that is none of them is above them all. -/
theorem nth_lt_of_ne {A : Finset K} (hC : Holds n C A) {p : K} (hp : p ∈ A) (hn : ∀ i, nth hne i ≠ p) (i : Fin n) : nth hne i < p := by
  by_cases hpC : p ∈ C
  · have hall : ∀ k, k ≤ n → p ∈ drop k C := by
      intro k
      induction k with
      | zero => exact fun _ => hpC
      | succ k ih =>
        intro hk
        rw [drop_succ', peel_of_nonempty (hne k hk), Finset.mem_erase]
        exact ⟨fun e => hn ⟨k, hk⟩ e.symm, ih (by omega)⟩
    exact lt_of_le_of_ne (Finset.min'_le _ _ (hall i.val i.isLt.le)) (hn i)
  · by_contra hlt
    have hle : p < nth hne i := lt_of_le_of_ne (not_lt.mp hlt) (Ne.symm (hn i))
    have h1 := hC.2 p hp hpC
    have h2 : C.filter (· < p) ⊆ top i.val C := by
      intro y hy
      rw [Finset.mem_filter] at hy
      refine Finset.mem_sdiff.mpr ⟨hy.1, fun hyd => ?_⟩
      exact absurd (hy.2.trans hle) (not_lt.mpr (Finset.min'_le _ _ hyd))
    have h3 := (Finset.card_le_card h2).trans (card_top_le i.val C)
    have := i.isLt
    omega

end Listed

theorem drop_zero (A : Finset K) : drop 0 A = A := rfl

theorem top_zero (A : Finset K) : top 0 A = ∅ := Finset.sdiff_self A

attribute [irreducible] drop top

end Cert.Kernel.Ranks

end
-- ==== Proof.Rows.lean ====
/-
  One row of the kernel's tables: a value and an index in every lane, a lane with the lowest value `z` counting as empty. A
  round takes the greatest value, at the least index among equals, and empties its lane; ten rounds list the ten best.
-/
module

public import proofs.«01_k».proof.Proof.Ranks
public import Idealize.ShloMosaic.PureOps.Ideal
public import Idealize.ShloMosaic.PureOps.Reduce
public import Mathlib.Data.Prod.Lex
public import Mathlib.Data.Finset.Fold

@[expose] public section

noncomputable section

namespace Cert.Kernel.Rows

open Idealize.ShloMosaic Cert.Kernel.Ranks

/-- A value with an index, greater values first and then lesser indices. -/
abbrev Ent := ERealᵒᵈ ×ₗ ℕ

/-- The entry of a value and an index, -/
def ent (v : EReal) (n : ℕ) : Ent := toLex (OrderDual.toDual v, n)
/-- its value -/
def vl (e : Ent) : EReal := OrderDual.ofDual (ofLex e).1
/-- and its index. -/
def ix (e : Ent) : ℕ := (ofLex e).2

@[simp] theorem vl_ent (v : EReal) (n : ℕ) : vl (ent v n) = v := rfl
@[simp] theorem ix_ent (v : EReal) (n : ℕ) : ix (ent v n) = n := rfl
theorem ent_vl_ix (e : Ent) : ent (vl e) (ix e) = e := rfl

theorem ent_inj {v v' : EReal} {n n' : ℕ} : ent v n = ent v' n' ↔ v = v' ∧ n = n' := by
  constructor
  · intro h; exact ⟨congrArg vl h, congrArg ix h⟩
  · rintro ⟨rfl, rfl⟩; rfl

theorem ent_lt {v v' : EReal} {n n' : ℕ} : ent v n < ent v' n' ↔ v' < v ∨ v = v' ∧ n < n' := by
  unfold ent
  rw [Prod.Lex.toLex_lt_toLex]
  simp only [OrderDual.toDual_lt_toDual, OrderDual.toDual_inj]

theorem ent_le {v v' : EReal} {n n' : ℕ} (h : ent v n ≤ ent v' n') : v' ≤ v ∧ (v = v' → n ≤ n') := by
  rcases h.eq_or_lt with h | h
  · obtain ⟨rfl, rfl⟩ := ent_inj.mp h; exact ⟨le_refl _, fun _ => le_refl _⟩
  · rcases ent_lt.mp h with hv | ⟨hv, hn⟩
    · exact ⟨le_of_lt hv, fun e => absurd hv (by rw [e]; exact lt_irrefl _)⟩
    · exact ⟨le_of_eq hv.symm, fun _ => Nat.le_of_lt hn⟩

/-- The least of words read as signed, where one of them is. -/
theorem fold_minsi {ι : Type} (S : Finset ι) (f : ι → BitVec 32) (l : ι) (hl : l ∈ S)
    (h : ∀ k ∈ S, (f l).toInt ≤ (f k).toInt) : S.fold IntOp.minsi 2147483647#32 f = f l := by
  classical
  have key : ∀ S : Finset ι, (∀ k ∈ S, (S.fold IntOp.minsi 2147483647#32 f).toInt ≤ (f k).toInt) ∧
      (S.fold IntOp.minsi 2147483647#32 f = 2147483647#32 ∨ ∃ k ∈ S, S.fold IntOp.minsi 2147483647#32 f = f k) := by
    intro S
    induction S using Finset.cons_induction with
    | empty => exact ⟨fun k hk => absurd hk (Finset.notMem_empty k), Or.inl rfl⟩
    | cons a S ha ih =>
      rw [Finset.fold_cons]
      have e : ∀ x y : BitVec 32, (IntOp.minsi x y = x ∧ x.toInt ≤ y.toInt) ∨ (IntOp.minsi x y = y ∧ y.toInt ≤ x.toInt) := by
        intro x y
        unfold IntOp.minsi
        split
        · rename_i h; simp only [BitVec.sle, BitVec.slt, decide_eq_true_eq] at h; exact Or.inl ⟨rfl, by omega⟩
        · rename_i h; simp only [BitVec.sle, BitVec.slt, decide_eq_true_eq] at h; exact Or.inr ⟨rfl, by omega⟩
      rcases e (f a) (S.fold IntOp.minsi 2147483647#32 f) with ⟨e, he⟩ | ⟨e, he⟩ <;> rw [e]
      · refine ⟨fun k hk => ?_, Or.inr ⟨a, Finset.mem_cons_self _ _, rfl⟩⟩
        rcases Finset.mem_cons.mp hk with rfl | hk
        · exact le_refl _
        · exact he.trans (ih.1 k hk)
      · refine ⟨fun k hk => ?_, ?_⟩
        · rcases Finset.mem_cons.mp hk with rfl | hk
          · exact he
          · exact ih.1 k hk
        · rcases ih.2 with h | ⟨k, hk, h⟩
          · exact Or.inl h
          · exact Or.inr ⟨k, Finset.mem_cons_of_mem hk, h⟩
  apply BitVec.eq_of_toInt_eq
  refine le_antisymm ((key S).1 l hl) ?_
  rcases (key S).2 with e | ⟨k, hk, e⟩ <;> rw [e]
  · have := BitVec.toInt_lt (x := f l)
    have e : (2147483647#32 : BitVec 32).toInt = 2147483647 := rfl
    rw [e]
    omega
  · exact h k hk

section Row

variable (z : EReal) {w : ℕ}

/-- A row's entries. -/
def tab (av : Fin w → EReal) (ag : Fin w → BitVec 32) : Finset Ent :=
  (Finset.univ.filter fun l => av l ≠ z).image fun l => ent (av l) (ag l).toNat

theorem mem_tab {av : Fin w → EReal} {ag : Fin w → BitVec 32} {e : Ent} :
    e ∈ tab z av ag ↔ ∃ l, av l ≠ z ∧ ent (av l) (ag l).toNat = e := by
  simp only [tab, Finset.mem_image, Finset.mem_filter, Finset.mem_univ, true_and]

attribute [irreducible] tab

/-- A row that holds no entry twice, with no value below `z` and no index that reads as negative. -/
structure RowOK (av : Fin w → EReal) (ag : Fin w → BitVec 32) : Prop where
  ge : ∀ l, z ≤ av l
  inj : ∀ l l', av l ≠ z → av l = av l' → ag l = ag l' → l = l'
  small : ∀ l, av l ≠ z → (ag l).toNat < 2 ^ 31

/-- The greatest value, -/
def rmx (av : Fin w → EReal) : EReal := Finset.univ.fold max ⊥ av
/-- the least index at which it stands, -/
def rgx (av : Fin w → EReal) (ag : Fin w → BitVec 32) : BitVec 32 :=
  Finset.univ.fold IntOp.minsi 2147483647#32 fun l => if av l = rmx av then ag l else 2147483647#32
/-- and the row without it. -/
def rstep (av : Fin w → EReal) (ag : Fin w → BitVec 32) : Fin w → EReal :=
  fun l => if av l = rmx av ∧ ag l = rgx av ag then z else av l

theorem rmx_eq {av : Fin w → EReal} (l : Fin w) (h : ∀ k, av k ≤ av l) : rmx av = av l := by
  refine le_antisymm ?_ ?_
  · exact Finset.fold_max_le _ |>.mpr ⟨bot_le, fun k _ => h k⟩
  · exact Finset.le_fold_max _ |>.mpr (Or.inr ⟨l, Finset.mem_univ l, le_refl _⟩)

/-- The value of the first entry of a set, `z` if it has none. -/
def hv (A : Finset Ent) : EReal := if h : A.Nonempty then vl (A.min' h) else z

variable {z}

/-- A round on a row with entries: what it takes and what it leaves. -/
theorem round_nonempty {av : Fin w → EReal} {ag : Fin w → BitVec 32} (ok : RowOK z av ag) (h : (tab z av ag).Nonempty) :
    rmx av = vl ((tab z av ag).min' h) ∧ (rgx av ag).toNat = ix ((tab z av ag).min' h) ∧ vl ((tab z av ag).min' h) ≠ z ∧
      ∃ l₀, av l₀ ≠ z ∧ ent (av l₀) (ag l₀).toNat = (tab z av ag).min' h ∧ ∀ l, rstep z av ag l = if l = l₀ then z else av l := by
  obtain ⟨l₀, h0, e0⟩ := (mem_tab z).mp ((tab z av ag).min'_mem h)
  have hle : ∀ l, av l ≠ z → ent (av l₀) (ag l₀).toNat ≤ ent (av l) (ag l).toNat := by
    intro l hl
    rw [e0]
    exact Finset.min'_le _ _ ((mem_tab z).mpr ⟨l, hl, rfl⟩)
  have hm : rmx av = av l₀ := by
    refine rmx_eq l₀ fun k => ?_
    by_cases hk : av k = z
    · rw [hk]; exact ok.ge l₀
    · exact (ent_le (hle k hk)).1
  have toInt_small : ∀ l, av l ≠ z → (ag l).toInt = (ag l).toNat := fun l hl =>
    BitVec.toInt_eq_toNat_of_lt (by have := ok.small l hl; omega)
  have hg : rgx av ag = ag l₀ := by
    unfold rgx
    have := fold_minsi Finset.univ (fun l => if av l = rmx av then ag l else 2147483647#32) l₀ (Finset.mem_univ _) (by
      intro k _
      rw [if_pos hm.symm, toInt_small l₀ h0]
      split
      · rename_i hk
        have hk' : av k ≠ z := by rw [hk, hm]; exact h0
        rw [toInt_small k hk']
        exact_mod_cast (ent_le (hle k hk')).2 (by rw [hk, hm])
      · have := ok.small l₀ h0
        have e : (2147483647#32 : BitVec 32).toInt = 2147483647 := rfl
        rw [e]
        omega)
    rw [this, if_pos hm.symm]
  refine ⟨by rw [hm, ← e0, vl_ent], by rw [hg, ← e0, ix_ent], by rw [← e0, vl_ent]; exact h0, l₀, h0, e0, fun l => ?_⟩
  unfold rstep
  rw [hm, hg]
  by_cases hl : l = l₀
  · subst hl; simp
  · rw [if_neg hl, if_neg]
    rintro ⟨h1, h2⟩
    exact hl (ok.inj l₀ l h0 h1.symm h2.symm).symm

/-- A round on a row without entries. -/
theorem round_empty (hw : 0 < w) {av : Fin w → EReal} {ag : Fin w → BitVec 32} (h : tab z av ag = ∅) :
    rmx av = z ∧ rstep z av ag = av := by
  have hz : ∀ l, av l = z := by
    intro l
    by_contra hl
    have : ent (av l) (ag l).toNat ∈ tab z av ag := (mem_tab z).mpr ⟨l, hl, rfl⟩
    rw [h] at this
    exact Finset.notMem_empty _ this
  have hm : rmx av = z := (rmx_eq ⟨0, hw⟩ fun k => by rw [hz k, hz ⟨0, hw⟩]).trans (hz _)
  refine ⟨hm, ?_⟩
  funext l
  unfold rstep
  split
  · exact (hz l).symm
  · rfl

/-- A round takes the first entry's value -/
theorem rmx_tab (hw : 0 < w) {av : Fin w → EReal} {ag : Fin w → BitVec 32} (ok : RowOK z av ag) : rmx av = hv z (tab z av ag) := by
  unfold hv
  split
  · rename_i h; exact (round_nonempty ok h).1
  · rename_i h; exact (round_empty hw (Finset.not_nonempty_iff_eq_empty.mp h)).1

/-- and leaves the others, -/
theorem tab_rstep (hw : 0 < w) {av : Fin w → EReal} {ag : Fin w → BitVec 32} (ok : RowOK z av ag) :
    tab z (rstep z av ag) ag = peel (tab z av ag) := by
  by_cases h : (tab z av ag).Nonempty
  · obtain ⟨_, _, _, l₀, h0, e0, hs⟩ := round_nonempty ok h
    rw [peel_of_nonempty h]
    ext e
    rw [Finset.mem_erase, mem_tab, mem_tab]
    constructor
    · rintro ⟨l, hl, he⟩
      rw [hs] at hl he
      by_cases hll : l = l₀
      · rw [if_pos hll] at hl; exact absurd rfl hl
      · rw [if_neg hll] at hl he
        refine ⟨?_, l, hl, he⟩
        rw [← e0, ← he]
        intro hee
        obtain ⟨h1, h2⟩ := ent_inj.mp hee
        exact hll (ok.inj l l₀ hl h1 (BitVec.eq_of_toNat_eq h2))
    · rintro ⟨hne, l, hl, he⟩
      have hll : l ≠ l₀ := by rintro rfl; exact hne (he.symm.trans e0)
      exact ⟨l, by rw [hs, if_neg hll]; exact hl, by rw [hs, if_neg hll]; exact he⟩
  · have h := Finset.not_nonempty_iff_eq_empty.mp h
    rw [(round_empty hw h).2, h, peel_empty]

/-- still without repetition. -/
theorem ok_rstep (hw : 0 < w) {av : Fin w → EReal} {ag : Fin w → BitVec 32} (ok : RowOK z av ag) : RowOK z (rstep z av ag) ag := by
  by_cases h : (tab z av ag).Nonempty
  · obtain ⟨_, _, _, l₀, _, _, hs⟩ := round_nonempty ok h
    refine ⟨fun l => ?_, fun l l' hl h1 h2 => ?_, fun l hl => ?_⟩
    · rw [hs]; split
      · exact le_refl _
      · exact ok.ge l
    · rw [hs] at hl h1; rw [hs] at h1
      by_cases hll : l = l₀
      · rw [if_pos hll] at hl; exact absurd rfl hl
      · rw [if_neg hll] at hl h1
        by_cases hll' : l' = l₀
        · rw [if_pos hll'] at h1; exact absurd h1 hl
        · rw [if_neg hll'] at h1; exact ok.inj l l' hl h1 h2
    · rw [hs] at hl
      by_cases hll : l = l₀
      · rw [if_pos hll] at hl; exact absurd rfl hl
      · rw [if_neg hll] at hl; exact ok.small l hl
  · rw [(round_empty hw (Finset.not_nonempty_iff_eq_empty.mp h)).2]; exact ok

/-- `n` rounds, their values and indices put in the lanes from `s` on. -/
def rpulls (z : EReal) {u : ℕ} (ag : Fin w → BitVec 32) : (n s : ℕ) → (Fin w → EReal) → (Fin u → EReal) → (Fin u → BitVec 32) → EReal →
    (Fin u → EReal) × (Fin u → BitVec 32) × EReal
  | 0, _, _, cv, ci, m => (cv, ci, m)
  | n + 1, s, av, cv, ci, _ => rpulls z ag n (s + 1) (rstep z av ag) (fun l => if l.val = s then rmx av else cv l)
      (fun l => if l.val = s then rgx av ag else ci l) (rmx av)

/-- The lanes before the `s`-th are as before. -/
theorem rpulls_other {u : ℕ} (ag : Fin w → BitVec 32) : ∀ (n s : ℕ) (av : Fin w → EReal) (cv : Fin u → EReal) (ci : Fin u → BitVec 32) (m : EReal)
    (l : Fin u), l.val < s → (rpulls z ag n s av cv ci m).1 l = cv l ∧ (rpulls z ag n s av cv ci m).2.1 l = ci l
  | 0, _, _, _, _, _, _, _ => ⟨rfl, rfl⟩
  | n + 1, s, av, cv, ci, m, l, h => by
    rw [rpulls]
    have := rpulls_other ag n (s + 1) (rstep z av ag) (fun l => if l.val = s then rmx av else cv l)
      (fun l => if l.val = s then rgx av ag else ci l) (rmx av) l (by omega)
    rw [this.1, this.2]
    rw [if_neg (by omega), if_neg (by omega)]
    exact ⟨rfl, rfl⟩

/-- The lanes from the `s`-th on list the row's entries in order. -/
theorem rpulls_lane {u : ℕ} (hw : 0 < w) (ag : Fin w → BitVec 32) : ∀ (n s : ℕ) (av : Fin w → EReal) (cv : Fin u → EReal) (ci : Fin u → BitVec 32) (m : EReal),
    RowOK z av ag → ∀ (l : Fin u) (i : ℕ), i < n → l.val = s + i →
      (rpulls z ag n s av cv ci m).1 l = hv z (drop i (tab z av ag)) ∧
      ∀ h : (drop i (tab z av ag)).Nonempty, ((rpulls z ag n s av cv ci m).2.1 l).toNat = ix ((drop i (tab z av ag)).min' h)
  | 0, _, _, _, _, _, _, _, _, hi, _ => absurd hi (Nat.not_lt_zero _)
  | n + 1, s, av, cv, ci, m, ok, l, 0, _, hl => by
    rw [rpulls]
    have := rpulls_other (z := z) ag n (s + 1) (rstep z av ag) (fun l => if l.val = s then rmx av else cv l)
      (fun l => if l.val = s then rgx av ag else ci l) (rmx av) l (by omega)
    rw [this.1, this.2]
    rw [if_pos (by omega), if_pos (by omega), drop_zero]
    exact ⟨rmx_tab hw ok, fun h => (round_nonempty ok h).2.1⟩
  | n + 1, s, av, cv, ci, m, ok, l, i + 1, hi, hl => by
    rw [rpulls]
    have := rpulls_lane hw ag n (s + 1) (rstep z av ag) (fun l => if l.val = s then rmx av else cv l)
      (fun l => if l.val = s then rgx av ag else ci l) (rmx av) (ok_rstep hw ok) l i (by omega) (by omega)
    rw [tab_rstep hw ok, ← drop_succ] at this
    exact this

/-- The last round's value. -/
theorem rpulls_last {u : ℕ} (hw : 0 < w) (ag : Fin w → BitVec 32) : ∀ (n s : ℕ) (av : Fin w → EReal) (cv : Fin u → EReal) (ci : Fin u → BitVec 32) (m : EReal),
    RowOK z av ag → (rpulls z ag (n + 1) s av cv ci m).2.2 = hv z (drop n (tab z av ag))
  | 0, s, av, cv, ci, m, ok => (rmx_tab hw ok).trans (by rw [drop_zero])
  | n + 1, s, av, cv, ci, m, ok => by
    rw [rpulls, rpulls_last hw ag n _ _ _ _ _ (ok_rstep hw ok), tab_rstep hw ok, drop_succ]

/-- The collected row gains the entries taken. -/
theorem rpulls_tab {u : ℕ} (hw : 0 < w) (ag : Fin w → BitVec 32) : ∀ (n s : ℕ) (av : Fin w → EReal) (cv : Fin u → EReal) (ci : Fin u → BitVec 32) (m : EReal),
    s + n ≤ u → RowOK z av ag → RowOK z cv ci → Disjoint (tab z av ag) (tab z cv ci) → (∀ l : Fin u, s ≤ l.val → cv l = z) →
      RowOK z (rpulls z ag n s av cv ci m).1 (rpulls z ag n s av cv ci m).2.1 ∧
      tab z (rpulls z ag n s av cv ci m).1 (rpulls z ag n s av cv ci m).2.1 = tab z cv ci ∪ top n (tab z av ag) ∧
      ∀ l : Fin u, s + n ≤ l.val → (rpulls z ag n s av cv ci m).1 l = z
  | 0, s, av, cv, ci, m, _, _, okc, _, hz => by
    refine ⟨okc, ?_, hz⟩
    rw [top_zero, Finset.union_empty]
    rfl
  | n + 1, s, av, cv, ci, m, hs, ok, okc, hd, hz => by
    rw [rpulls]
    have hsu : s < u := by omega
    have step : RowOK z (fun l : Fin u => if l.val = s then rmx av else cv l) (fun l => if l.val = s then rgx av ag else ci l) ∧
        (∀ h : (tab z av ag).Nonempty, tab z (fun l : Fin u => if l.val = s then rmx av else cv l) (fun l => if l.val = s then rgx av ag else ci l)
          = insert ((tab z av ag).min' h) (tab z cv ci)) ∧
        (tab z av ag = ∅ → tab z (fun l : Fin u => if l.val = s then rmx av else cv l) (fun l => if l.val = s then rgx av ag else ci l) = tab z cv ci) := by
      have htab : ∀ e, e ∈ tab z (fun l : Fin u => if l.val = s then rmx av else cv l) (fun l => if l.val = s then rgx av ag else ci l)
          ↔ (rmx av ≠ z ∧ ent (rmx av) (rgx av ag).toNat = e) ∨ e ∈ tab z cv ci := by
        intro e
        rw [mem_tab, mem_tab]
        constructor
        · rintro ⟨l, hl, he⟩
          by_cases hls : l.val = s
          · rw [if_pos hls] at hl he; rw [if_pos hls] at he; exact Or.inl ⟨hl, he⟩
          · rw [if_neg hls] at hl he; rw [if_neg hls] at he; exact Or.inr ⟨l, hl, he⟩
        · rintro (⟨hl, he⟩ | ⟨l, hl, he⟩)
          · exact ⟨⟨s, hsu⟩, by rw [if_pos rfl]; exact hl, by rw [if_pos rfl, if_pos rfl]; exact he⟩
          · have hls : l.val ≠ s := fun e => hl (hz l (by omega))
            exact ⟨l, by rw [if_neg hls]; exact hl, by rw [if_neg hls, if_neg hls]; exact he⟩
      by_cases h : (tab z av ag).Nonempty
      · obtain ⟨hm, hg, hne, l₀, h0, e0, _⟩ := round_nonempty ok h
        have hmin : ent (rmx av) (rgx av ag).toNat = (tab z av ag).min' h := by rw [hm, hg]; exact ent_vl_ix _
        have hmz : rmx av ≠ z := by rw [hm]; exact hne
        have hnot : (tab z av ag).min' h ∉ tab z cv ci := Finset.disjoint_left.mp hd (Finset.min'_mem _ _)
        refine ⟨⟨fun l => ?_, fun l l' hl h1 h2 => ?_, fun l hl => ?_⟩, fun _ => ?_, fun he => absurd he (Finset.nonempty_iff_ne_empty.mp h)⟩
        · split
          · rw [hm, ← e0, vl_ent]; exact ok.ge l₀
          · exact okc.ge l
        · by_cases hls : l.val = s
          · by_cases hls' : l'.val = s
            · exact Fin.ext (hls.trans hls'.symm)
            · rw [if_pos hls, if_neg hls'] at h1 h2
              refine absurd ((mem_tab z).mpr ⟨l', by rw [← h1]; exact hmz, ?_⟩) hnot
              rw [← h1, ← h2, hmin]
          · by_cases hls' : l'.val = s
            · rw [if_neg hls] at hl
              rw [if_neg hls, if_pos hls'] at h1 h2
              refine absurd ((mem_tab z).mpr ⟨l, hl, ?_⟩) hnot
              rw [h1, h2, hmin]
            · rw [if_neg hls] at hl
              rw [if_neg hls, if_neg hls'] at h1 h2
              exact okc.inj l l' hl h1 h2
        · by_cases hls : l.val = s
          · rw [if_pos hls, hg, ← e0, ix_ent]; exact ok.small l₀ h0
          · rw [if_neg hls] at hl ⊢; exact okc.small l hl
        · ext e
          rw [htab, Finset.mem_insert, hmin]
          exact or_congr_left ⟨fun h => h.2.symm, fun h => ⟨hmz, h.symm⟩⟩
      · have h := Finset.not_nonempty_iff_eq_empty.mp h
        obtain ⟨hm, _⟩ := round_empty hw h
        have hlane : ∀ l : Fin u, (if l.val = s then rmx av else cv l) = cv l := by
          intro l
          split
          · rename_i hls; rw [hm, hz l (by omega)]
          · rfl
        refine ⟨⟨fun l => ?_, fun l l' hl h1 h2 => ?_, fun l hl => ?_⟩, fun h' => absurd h (Finset.nonempty_iff_ne_empty.mp h'), fun _ => ?_⟩
        · rw [hlane]; exact okc.ge l
        · rw [hlane] at hl h1; rw [hlane] at h1
          have hls : l.val ≠ s := fun e => hl (hz l (by omega))
          have hls' : l'.val ≠ s := fun e => hl (h1.trans (hz l' (by omega)))
          rw [if_neg hls, if_neg hls'] at h2
          exact okc.inj l l' hl h1 h2
        · rw [hlane] at hl
          have hls : l.val ≠ s := fun e => hl (hz l (by omega))
          rw [if_neg hls]
          exact okc.small l hl
        · ext e
          rw [htab, hm]
          exact ⟨fun h => h.resolve_left fun h => h.1 rfl, Or.inr⟩
    have ih := rpulls_tab hw ag n (s + 1) (rstep z av ag) (fun l => if l.val = s then rmx av else cv l)
      (fun l => if l.val = s then rgx av ag else ci l) (rmx av) (by omega) (ok_rstep hw ok) step.1 (by
        rw [tab_rstep hw ok]
        by_cases h : (tab z av ag).Nonempty
        · rw [step.2.1 h, Finset.disjoint_insert_right, peel_of_nonempty h]
          exact ⟨Finset.notMem_erase _ _, hd.mono_left (Finset.erase_subset _ _)⟩
        · have h := Finset.not_nonempty_iff_eq_empty.mp h
          rw [h, peel_empty]
          exact Finset.disjoint_empty_left _) (by
        intro l hl
        rw [if_neg (by omega)]
        exact hz l (by omega))
    rw [tab_rstep hw ok] at ih
    refine ⟨ih.1, ih.2.1.trans ?_, fun l hl => ih.2.2 l (by omega)⟩
    by_cases h : (tab z av ag).Nonempty
    · rw [step.2.1 h, top_succ n h, Finset.insert_union, Finset.union_insert]
    · have h := Finset.not_nonempty_iff_eq_empty.mp h
      rw [step.2.2 h, h, peel_empty, top_empty, top_empty]

end Row

end Cert.Kernel.Rows

end
-- ==== Proof.RowRead.lean ====
/-
  The kernel's rounds read row by row at the extended reals.
-/
module

public import proofs.«01_k».proof.Proof.FastFn
public import proofs.«01_k».proof.Proof.Rows
public import Idealize.ShloMosaic.Lib.Pointwise.Tactic
public import Idealize.ShloMosaic.Lib.Pointwise.Reshape
public import Idealize.ShloMosaic.Lib.Pointwise.Reduce
public import Idealize.ShloMosaic.Lib.Pipeline.Value

@[expose] public section

noncomputable section

namespace Cert.Kernel.Body

open Idealize.ShloMosaic Idealize.ShloMosaic.TcCoe
open Cert.Kernel Cert.Kernel.Facts₀ Cert.Kernel.Facts Cert.Kernel.Ranks Cert.Kernel.Rows

variable [Facts]

/-- A row of an array of rows. -/
def row {w : ℕ} {α : Type} (q : Fin 1024) (X : (Sw w).Idx → α) : Fin w → α := fun l => X (ix2 q l)

/-- The lowest value. -/
def neg : EReal := negW (F := Ideal)

/-- A list of rows read as one column. -/
theorem cast_col {α : Type} (x : S1024.Idx → α) (q : Fin 1024) : shapeCast S1024x1 x shapeCasts_S1024_S1024x1 (ix2 q 0) = x (ix1 q) :=
  shapeCast_apply x _ _ _ (by
    rw [rowMajor_val1, rowMajor_val2 _ 1 rfl]
    show q.val = q.val * 1 + 0
    omega)

/-- A column spread over the lanes. -/
theorem spread {w : ℕ} {α : Type} (hb : S1024x1.Broadcasts (Sw w)) (x : S1024x1.Idx → α) (q : Fin 1024) (l : Fin w) :
    broadcastTo (Sw w) x hb (ix2 q l) = x (ix2 q 0) := by
  simp only [pointwise]
  refine congrArg x ?_
  funext a
  match a with
  | ⟨0, _⟩ => rfl
  | ⟨1, _⟩ => rfl

theorem cmpf_eq (x y : EReal) : FloatOps.cmpf (F := Ideal) (φ := .f32) .oeq x y = BitVec.ofBool (decide (x = y)) := rfl

section Pull

variable (w : Nat) (hr : (Sw w).Reduces [1] S1024) (hb : S1024x1.Broadcasts (Sw w)) (q : Fin 1024)

theorem mx_row (av : FVec Ideal (Sw w) .f32) : mx w hr av (ix2 q 0) = rmx (row q av) := by
  unfold mx
  rw [cast_col]
  refine (multiReduction_maximumf_eq_fold _ _ _ _ _ _).trans ((Shape.Reduces.fold_fiber_r2_a1 (n0 := 1024) (n1 := w) hr (ix1 q) _ _ _).trans ?_)
  have e : (FloatOps.ofBits .f32 0xFF800000#32 : Ideal .f32) = (⊥ : EReal) := by
    show Ideal.ofBits .f32 0xFF800000#32 = ⊥
    simp [Ideal.ofBits, Ideal.ieee]
  rw [e]
  rfl

theorem eqm_row (av : FVec Ideal (Sw w) .f32) (l : Fin w) : eqm w hr hb av (ix2 q l) = BitVec.ofBool (decide (row q av l = rmx (row q av))) := by
  unfold eqm
  rw [← mx_row w hr q av, ← spread hb (mx w hr av) q l]
  rfl

theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

theorem gx_row (av : FVec Ideal (Sw w) .f32) (ag : IVec (Sw w) 32) : gx w hr hb av ag (ix2 q 0) = rgx (row q av) (row q ag) := by
  unfold gx
  rw [cast_col]
  refine (multiReductionI_eq_fold _ _ _ _ _ _).trans ((Shape.Reduces.fold_fiber_r2_a1 (n0 := 1024) (n1 := w) hr (ix1 q) _ _ _).trans ?_)
  unfold rgx
  refine Finset.fold_congr fun l _ => ?_
  show Scalar.select (eqm w hr hb av (ix2 q l)) (ag (ix2 q l)) 2147483647#32 = _
  rw [eqm_row, select_ofBool]
  rfl

theorem avStep_row (av : FVec Ideal (Sw w) .f32) (ag : IVec (Sw w) 32) : row q (avStep w hr hb av ag) = rstep neg (row q av) (row q ag) := by
  funext l
  unfold avStep row rstep
  simp only [pointwise, eqm_row, spread, gx_row]
  rw [show IntOp.cmpi CmpIPredicate.eq (ag (ix2 q l)) (rgx (row q av) (row q ag)) = BitVec.ofBool (decide (ag (ix2 q l) = rgx (row q av) (row q ag))) from rfl,
    show ∀ a b : Bool, IntOp.andi (BitVec.ofBool a) (BitVec.ofBool b) = BitVec.ofBool (a && b) from by decide, ← Bool.decide_and, select_ofBool]
  rfl

theorem lane_row (l : Fin 128) : lane (ix2 q l) = BitVec.ofNat 32 l.val := by
  simp only [pointwise]
  refine congrArg (BitVec.ofNat 32) ?_
  show 0 * 128 + l.val = l.val
  omega

theorem eq_lane (l : Fin 128) (s : ℕ) (hs : s < 128) :
    IntOp.cmpi .eq (BitVec.ofNat 32 l.val) (BitVec.ofNat 32 s) = BitVec.ofBool (decide (l.val = s)) := by
  have : (BitVec.ofNat 32 l.val = BitVec.ofNat 32 s) ↔ l.val = s := by
    rw [← BitVec.toNat_inj, BitVec.toNat_ofNat, BitVec.toNat_ofNat]
    have := l.isLt
    omega
  show BitVec.ofBool (BitVec.ofNat 32 l.val == BitVec.ofNat 32 s) = _
  rw [← decide_eq_decide.mpr this]
  rfl

theorem cast_same {α : Type} {s : Shape} (x : s.Idx → α) (h : s.ShapeCasts s) : shapeCast s x h = x := by
  simp only [pointwise]

theorem cvStep_row (s : ℕ) (hs : s < 128) (m : FVec Ideal S1024x1 .f32) (cv : FVec Ideal S1024x128 .f32) :
    row q (cvStep lane (BitVec.ofNat 32 s) m cv) = fun l => if l.val = s then m (ix2 q 0) else row q cv l := by
  funext l
  unfold cvStep
  rw [cast_same]
  show Scalar.select (IntOp.cmpi .eq (lane (ix2 q l)) (BitVec.ofNat 32 s)) (broadcastTo S1024x128 m broadcasts_S1024x1_S1024x128 (ix2 q l)) (cv (ix2 q l)) = _
  rw [lane_row, eq_lane l s hs, select_ofBool, spread (w := 128)]
  rfl

theorem ciStep_row (s : ℕ) (hs : s < 128) (m : IVec S1024x1 32) (ci : IVec S1024x128 32) :
    row q (ciStep lane (BitVec.ofNat 32 s) m ci) = fun l => if l.val = s then m (ix2 q 0) else row q ci l := by
  funext l
  unfold ciStep
  rw [cast_same]
  show Scalar.select (IntOp.cmpi .eq (lane (ix2 q l)) (BitVec.ofNat 32 s)) (broadcastTo S1024x128 m broadcasts_S1024x1_S1024x128 (ix2 q l)) (ci (ix2 q l)) = _
  rw [lane_row, eq_lane l s hs, select_ofBool, spread (w := 128)]
  rfl

/-- The rounds of a block of rows are, row by row, the rounds of the row. -/
theorem pulls_row (ag : IVec (Sw w) 32) : ∀ (n s : ℕ) (av : FVec Ideal (Sw w) .f32) (cv : FVec Ideal S1024x128 .f32) (ci : IVec S1024x128 32)
    (m : FVec Ideal S1024x1 .f32), s + n ≤ 128 →
      (row q (pulls w hr hb lane ag n s av cv ci m).1, row q (pulls w hr hb lane ag n s av cv ci m).2.1, (pulls w hr hb lane ag n s av cv ci m).2.2 (ix2 q 0))
        = rpulls neg (row q ag) n s (row q av) (row q cv) (row q ci) (m (ix2 q 0))
  | 0, _, _, _, _, _, _ => rfl
  | n + 1, s, av, cv, ci, m, h => by
    rw [pulls, rpulls, pulls_row ag n (s + 1) _ _ _ _ (by omega), avStep_row, cvStep_row q s (by omega), ciStep_row q s (by omega), mx_row, gx_row]

/-- Ten rounds list the first ten entries of the row they are taken from, -/
theorem pulled {P : FVec Ideal S1024x128 .f32 × IVec S1024x128 32 × FVec Ideal S1024x1 .f32} {ag : Fin w → BitVec 32} {av : Fin w → EReal}
    {cv : Fin 128 → EReal} {ci : Fin 128 → BitVec 32} {m : EReal} (hw : 0 < w)
    (hP : (row q P.1, row q P.2.1, P.2.2 (ix2 q 0)) = rpulls neg ag 10 0 av cv ci m) (ok : RowOK neg av ag) :
    (∀ (l : Fin 128) (i : ℕ), i < 10 → l.val = i → row q P.1 l = hv neg (drop i (tab neg av ag)) ∧
      ∀ h : (drop i (tab neg av ag)).Nonempty, (row q P.2.1 l).toNat = ix ((drop i (tab neg av ag)).min' h)) ∧
    P.2.2 (ix2 q 0) = hv neg (drop 9 (tab neg av ag)) := by
  have e1 : row q P.1 = _ := congrArg Prod.fst hP
  have e2 : row q P.2.1 = _ := congrArg (fun x => x.2.1) hP
  have e3 : P.2.2 (ix2 q 0) = _ := congrArg (fun x => x.2.2) hP
  refine ⟨fun l i hi hl => ?_, ?_⟩
  · rw [e1, e2]
    exact rpulls_lane (z := neg) hw ag 10 0 av cv ci m ok l i hi (by omega)
  · rw [e3]
    exact rpulls_last (z := neg) hw ag 9 0 av cv ci m ok

/-- and where the lanes written were empty the row written holds just these. -/
theorem pulled_tab {P : FVec Ideal S1024x128 .f32 × IVec S1024x128 32 × FVec Ideal S1024x1 .f32} {ag : Fin w → BitVec 32} {av : Fin w → EReal}
    {ci : Fin 128 → BitVec 32} {m : EReal} (hw : 0 < w)
    (hP : (row q P.1, row q P.2.1, P.2.2 (ix2 q 0)) = rpulls neg ag 10 0 av (fun _ => neg) ci m) (ok : RowOK neg av ag) :
    RowOK neg (row q P.1) (row q P.2.1) ∧ tab neg (row q P.1) (row q P.2.1) = top 10 (tab neg av ag) ∧
      ∀ l : Fin 128, 10 ≤ l.val → row q P.1 l = neg := by
  have e1 : row q P.1 = _ := congrArg Prod.fst hP
  have e2 : row q P.2.1 = _ := congrArg (fun x => x.2.1) hP
  have hempty : tab neg (fun _ : Fin 128 => neg) ci = ∅ := by
    rw [Finset.eq_empty_iff_forall_notMem]
    intro e he
    obtain ⟨l, hl, _⟩ := (mem_tab neg).mp he
    exact hl rfl
  have h := rpulls_tab (z := neg) hw ag 10 0 av (fun _ : Fin 128 => neg) ci m (by decide) ok
    ⟨fun _ => le_refl _, fun _ _ h => absurd rfl h, fun _ h => absurd rfl h⟩ (by rw [hempty]; exact Finset.disjoint_empty_right _) (fun _ _ => rfl)
  rw [hempty, Finset.empty_union] at h
  rw [e1, e2]
  exact ⟨h.1, h.2.1, fun l hl => h.2.2 l (by omega)⟩

end Pull

end Cert.Kernel.Body

end
-- ==== Proof.Column.lean ====
/-
  One column of the kernel's tables: the three greatest values met so far and where two of them were met. What the column
  does not hold is at most the third value.
-/
module

public import Idealize.ShloMosaic.PureOps.Ideal

@[expose] public section

noncomputable section

namespace Cert.Kernel.Column

/-- Three values and two places. -/
structure Col where
  (t1 t2 t3 : EReal)
  (i1 i2 : BitVec 32)

/-- A value met at a place. -/
def cin (B : Col) (x : BitVec 32 × EReal) : Col :=
  ⟨if B.t1 < x.2 then x.2 else B.t1,
    if B.t1 < x.2 then B.t1 else if B.t2 < x.2 then x.2 else B.t2,
    if B.t2 < x.2 then B.t2 else if B.t3 < x.2 then x.2 else B.t3,
    if B.t1 < x.2 then x.1 else B.i1,
    if B.t1 < x.2 then B.i1 else if B.t2 < x.2 then x.1 else B.i2⟩

variable (z : EReal) (f : ℕ → EReal)

/-- The column after the places in `A` were met, the value at place `g` being `f g`; `z` is the value of an empty column. -/
structure Held (A : ℕ → Prop) (B : Col) : Prop where
  z3 : z ≤ B.t3
  le32 : B.t3 ≤ B.t2
  le21 : B.t2 ≤ B.t1
  h1 : B.t1 = z ∨ (A B.i1.toNat ∧ B.t1 = f B.i1.toNat)
  h2 : B.t2 = z ∨ (A B.i2.toNat ∧ B.t2 = f B.i2.toNat)
  ne : B.t1 ≠ z → B.t2 ≠ z → B.i1.toNat ≠ B.i2.toNat
  all : ∀ g, A g → (B.t1 ≠ z ∧ B.i1.toNat = g) ∨ (B.t2 ≠ z ∧ B.i2.toNat = g) ∨ f g ≤ B.t3

variable {z f}

/-- The empty column. -/
theorem held_empty {A : ℕ → Prop} (hA : ∀ g, ¬ A g) (i1 i2 : BitVec 32) : Held z f A ⟨z, z, z, i1, i2⟩ :=
  ⟨le_refl _, le_refl _, le_refl _, Or.inl rfl, Or.inl rfl, fun h => absurd rfl h, fun g h => absurd h (hA g)⟩

/-- A value not above `z` changes nothing. -/
theorem cin_low {A : ℕ → Prop} {B : Col} (h : Held z f A B) (i : BitVec 32) : cin B (i, z) = B := by
  have h3 := h.z3
  have h2 := h3.trans h.le32
  have h1 := h2.trans h.le21
  unfold cin
  rw [if_neg (not_lt.mpr h1), if_neg (not_lt.mpr h1), if_neg (not_lt.mpr h1), if_neg (not_lt.mpr h1), if_neg (not_lt.mpr h2), if_neg (not_lt.mpr h2),
    if_neg (not_lt.mpr h2), if_neg (not_lt.mpr h3)]

theorem Held.congr {A A' : ℕ → Prop} {B : Col} (h : Held z f A B) (e : ∀ g, A g ↔ A' g) : Held z f A' B := by
  obtain rfl : A = A' := funext fun g => propext (e g)
  exact h

/-- A new place met. -/
theorem Held.insert {A : ℕ → Prop} {B : Col} (h : Held z f A B) (i : BitVec 32) (hi : ¬ A i.toNat) (hz : z < f i.toNat) :
    Held z f (fun g => A g ∨ g = i.toNat) (cin B (i, f i.toNat)) := by
  obtain ⟨t1, t2, t3, i1, i2⟩ := B
  obtain ⟨z3, le32, le21, h1, h2, ne, all⟩ := h
  dsimp only at z3 le32 le21 h1 h2 ne all
  unfold cin
  dsimp only
  have hne := ne_of_gt hz
  by_cases b1 : t1 < f i.toNat
  · have b2 : t2 < f i.toNat := lt_of_le_of_lt le21 b1
    simp only [if_pos b1, if_pos b2]
    refine ⟨z3.trans le32, le21, b1.le, Or.inr ⟨Or.inr rfl, rfl⟩, h1.imp_right fun h => ⟨Or.inl h.1, h.2⟩, fun _ h e => ?_, fun g hg => ?_⟩
    · rcases h1 with h1 | h1
      · exact h h1
      · exact hi (e ▸ h1.1)
    · rcases hg with hg | rfl
      · rcases all g hg with h | h | h
        · exact Or.inr (Or.inl h)
        · refine Or.inr (Or.inr ?_)
          rcases h2 with h2 | h2
          · exact absurd h2 h.1
          · rw [← h.2]; exact h2.2.ge
        · exact Or.inr (Or.inr (h.trans le32))
      · exact Or.inl ⟨hne, rfl⟩
  · by_cases b2 : t2 < f i.toNat
    · simp only [if_neg b1, if_pos b2]
      refine ⟨z3.trans le32, b2.le, not_lt.mp b1, h1.imp_right fun h => ⟨Or.inl h.1, h.2⟩, Or.inr ⟨Or.inr rfl, rfl⟩, fun h _ e => ?_, fun g hg => ?_⟩
      · rcases h1 with h1 | h1
        · exact h h1
        · exact hi (e ▸ h1.1)
      · rcases hg with hg | rfl
        · rcases all g hg with h | h | h
          · exact Or.inl h
          · refine Or.inr (Or.inr ?_)
            rcases h2 with h2 | h2
            · exact absurd h2 h.1
            · rw [← h.2]; exact h2.2.ge
          · exact Or.inr (Or.inr (h.trans le32))
        · exact Or.inr (Or.inl ⟨hne, rfl⟩)
    · simp only [if_neg b1, if_neg b2]
      have h1' := h1.imp_right fun h : A i1.toNat ∧ t1 = f i1.toNat => (⟨Or.inl h.1, h.2⟩ : (A i1.toNat ∨ i1.toNat = i.toNat) ∧ t1 = f i1.toNat)
      have h2' := h2.imp_right fun h : A i2.toNat ∧ t2 = f i2.toNat => (⟨Or.inl h.1, h.2⟩ : (A i2.toNat ∨ i2.toNat = i.toNat) ∧ t2 = f i2.toNat)
      by_cases b3 : t3 < f i.toNat
      · simp only [if_pos b3]
        refine ⟨hz.le, not_lt.mp b2, le21, h1', h2', ne, fun g hg => ?_⟩
        rcases hg with hg | rfl
        · rcases all g hg with h | h | h
          · exact Or.inl h
          · exact Or.inr (Or.inl h)
          · exact Or.inr (Or.inr (h.trans b3.le))
        · exact Or.inr (Or.inr (le_refl _))
      · simp only [if_neg b3]
        refine ⟨z3, le32, le21, h1', h2', ne, fun g hg => ?_⟩
        rcases hg with hg | rfl
        · exact all g hg
        · exact Or.inr (Or.inr (not_lt.mp b3))

end Cert.Kernel.Column

end
-- ==== Proof.Tables.lean ====
/-
  The fast call's tables column by column at the extended reals: a tile's insertions are, at each of its columns, the values
  of the panels met one after another.
-/
module

public import proofs.«01_k».proof.Proof.RowRead
public import proofs.«01_k».proof.Proof.Column

@[expose] public section

noncomputable section

namespace Cert.Kernel.Body

open Idealize.ShloMosaic Idealize.ShloMosaic.TcCoe
open Cert.Kernel Cert.Kernel.Facts₀ Cert.Kernel.Facts Cert.Kernel.Ranks Cert.Kernel.Rows

open Cert.Kernel.Column

variable [Facts]

/-- The column of class `p`, row `q`, lane `l`. -/
def colAt (T : TV Ideal × TI Ideal) (p : Fin 4) (q : Fin 1024) (l : Fin 128) : Col :=
  ⟨T.1 (ix4 p 0 q l), T.1 (ix4 p 1 q l), T.1 (ix4 p 2 q l), T.2 (ix4 p 0 q l), T.2 (ix4 p 1 q l)⟩

/-- A tile cast to one tile of a table. -/
theorem cast_tile {α : Type} (x : S128x128.Idx → α) (r l : Fin 128) :
    shapeCast S1x1x128x128 x shapeCasts_S128x128_S1x1x128x128 (ix4 0 0 r l) = x (ix2 r l) :=
  shapeCast_apply x _ _ _ (by
    rw [rowMajor_val2 _ 128 rfl, rowMajor_val4 _ (128 * 128) (128 * 128) 128 rfl rfl rfl]
    show r.val * 128 + l.val = 0 * _ + 0 * _ + r.val * 128 + l.val
    omega)

/-- and back. -/
theorem cast_tile' {α : Type} (x : S1x1x128x128.Idx → α) (r l : Fin 128) :
    shapeCast S128x128 x shapeCasts_S1x1x128x128_S128x128 (ix2 r l) = x (ix4 0 0 r l) :=
  shapeCast_apply x _ _ _ (by
    rw [rowMajor_val2 _ 128 rfl, rowMajor_val4 _ (128 * 128) (128 * 128) 128 rfl rfl rfl]
    show 0 * _ + 0 * _ + r.val * 128 + l.val = r.val * 128 + l.val
    omega)

section Put

variable {α : Type} {R : ℕ} (p : Fin 4) (r : Fin R) (b : Fin 8)
  (h : ∀ a, (![p.val, r.val, 128 * b.val, 0] : Fin 4 → Nat) a + S1x1x128x128.size a ≤ (⟨4, ![4, R, 1024, 128]⟩ : Shape).size a)

/-- The place of a tile's element in the table. -/
theorem emb_tile (a l : Fin 128) (q : Fin 1024) (hq : q.val = 128 * b.val + a.val) :
    (Rect.unit (s := ⟨4, ![4, R, 1024, 128]⟩) ![p.val, r.val, 128 * b.val, 0] S1x1x128x128.size h).emb (ix4 0 0 a l) = ix4 p r q l := by
  funext d
  apply Fin.ext
  match d with
  | ⟨0, _⟩ => show p.val + 1 * 0 = p.val; omega
  | ⟨1, _⟩ => show r.val + 1 * 0 = r.val; omega
  | ⟨2, _⟩ => show 128 * b.val + 1 * a.val = q.val; omega
  | ⟨3, _⟩ => show 0 + 1 * l.val = l.val; omega

/-- A table with a tile put in, at an element. -/
theorem put_tile (x : S128x128.Idx → α) (V : (⟨4, ![4, R, 1024, 128]⟩ : Shape).Idx → α) (p' : Fin 4) (r' : Fin R) (q : Fin 1024) (l : Fin 128) :
    (Rect.unit (s := ⟨4, ![4, R, 1024, 128]⟩) ![p.val, r.val, 128 * b.val, 0] S1x1x128x128.size h).overlay V
        (shapeCast S1x1x128x128 x shapeCasts_S128x128_S1x1x128x128) (ix4 p' r' q l)
      = if p' = p ∧ r' = r ∧ q.val / 128 = b.val then x (ix2 ⟨q.val % 128, by omega⟩ l) else V (ix4 p' r' q l) := by
  by_cases hc : p' = p ∧ r' = r ∧ q.val / 128 = b.val
  · obtain ⟨rfl, rfl, hq⟩ := hc
    rw [if_pos ⟨rfl, rfl, hq⟩, ← emb_tile p' r' b h ⟨q.val % 128, by omega⟩ l q (by show q.val = 128 * b.val + q.val % 128; omega), Rect.overlay_emb, cast_tile]
  · rw [if_neg hc, Rect.overlay_of_not_mem]
    intro hm
    obtain ⟨y, hy⟩ := LoadRect.exists_idx_of_mem _ hm
    apply hc
    have e0 := congrArg (fun i => (i 0).val) hy
    have e1 := congrArg (fun i => (i 1).val) hy
    have e2 := congrArg (fun i => (i 2).val) hy
    have l0 : (y 0).val < 1 := (y 0).isLt
    have l1 : (y 1).val < 1 := (y 1).isLt
    have l2 : (y 2).val < 128 := (y 2).isLt
    change p.val + 1 * (y 0).val = p'.val at e0
    change r.val + 1 * (y 1).val = r'.val at e1
    change 128 * b.val + 1 * (y 2).val = q.val at e2
    exact ⟨Fin.ext (by omega), Fin.ext (by omega), by omega⟩

end Put

theorem setV_apply (p : Fin 4) (r : Fin 3) (b : Fin 8) (x : FVec Ideal S128x128 .f32) (V : TV Ideal) (p' : Fin 4) (r' : Fin 3) (q : Fin 1024) (l : Fin 128) :
    setV p r b x V (ix4 p' r' q l) = if p' = p ∧ r' = r ∧ q.val / 128 = b.val then x (ix2 ⟨q.val % 128, by omega⟩ l) else V (ix4 p' r' q l) :=
  put_tile p r b _ x V p' r' q l

theorem setI_apply (p : Fin 4) (r : Fin 2) (b : Fin 8) (x : IVec S128x128 32) (V : TI Ideal) (p' : Fin 4) (r' : Fin 2) (q : Fin 1024) (l : Fin 128) :
    setI (F := Ideal) p r b x V (ix4 p' r' q l) = if p' = p ∧ r' = r ∧ q.val / 128 = b.val then x (ix2 ⟨q.val % 128, by omega⟩ l) else V (ix4 p' r' q l) :=
  put_tile p r b _ x V p' r' q l

/-- One element of a tile's best. -/
def bestAt (B : Best Ideal) (r l : Fin 128) : Col := ⟨B.t1 (ix2 r l), B.t2 (ix2 r l), B.t3 (ix2 r l), B.i1 (ix2 r l), B.i2 (ix2 r l)⟩

theorem cmpf_gt {α : Type} (x y : EReal) (a b : α) :
    Scalar.select (FloatOps.cmpf (F := Ideal) (φ := .f32) .ogt x y) a b = if y < x then a else b := select_ofBool (y < x) a b

/-- A panel inserted, at an element. -/
theorem bestAt_ins1 (b : Fin 8) (g : BitVec 32) (vf : FVec Ideal S1024x128 .f32) (B : Best Ideal) (r l : Fin 128) (q : Fin 1024) (hq : q.val = 128 * b.val + r.val) :
    bestAt (ins1 b g vf B) r l = cin (bestAt B r l) (g, vf (ix2 q l)) := by
  have hv : extractStridedSlice S128x128 ![128 * b.val, 0] vf (slT b) (ix2 r l) = vf (ix2 q l) := by
    unfold extractStridedSlice
    refine congrArg vf ?_
    funext d
    apply Fin.ext
    match d with
    | ⟨0, _⟩ => exact hq.symm
    | ⟨1, _⟩ => show 0 + l.val = l.val; omega
  unfold bestAt ins1 cin
  dsimp only
  rw [← hv]
  simp only [select, cmpf, broadcast, cmpf_gt]

theorem bestAt_insL (b : Fin 8) (r l : Fin 128) (q : Fin 1024) (hq : q.val = 128 * b.val + r.val) :
    ∀ (L : List (BitVec 32 × FVec Ideal S1024x128 .f32)) (B : Best Ideal),
      bestAt (insL b L B) r l = (L.map fun x => (x.1, (x.2 (ix2 q l) : EReal))).foldl cin (bestAt B r l)
  | [], _ => rfl
  | x :: L, B => by
    rw [insL, List.foldl_cons, List.map_cons, List.foldl_cons, ← bestAt_ins1 b x.1 x.2 B r l q hq]
    exact bestAt_insL b r l q hq L _

theorem bestAt_bestOf (p : Fin 4) (b : Fin 8) (T : TV Ideal × TI Ideal) (r l : Fin 128) (q : Fin 1024) (hq : q.val = 128 * b.val + r.val) :
    bestAt (bestOf p b T.1 T.2) r l = colAt T p q l := by
  unfold bestAt bestOf colAt
  dsimp only
  simp only [cast_tile']
  unfold get
  rw [emb_tile (R := 3) p 0 b _ r l q hq, emb_tile (R := 3) p 1 b _ r l q hq, emb_tile (R := 3) p 2 b _ r l q hq,
    emb_tile (R := 2) p 0 b _ r l q hq, emb_tile (R := 2) p 1 b _ r l q hq]

/-- One tile of one class, at a column. -/
theorem colAt_tile (p : Fin 4) (L : List (BitVec 32 × FVec Ideal S1024x128 .f32)) (b : Fin 8) (T : TV Ideal × TI Ideal) (p' : Fin 4) (q : Fin 1024) (l : Fin 128) :
    colAt (tile p L b T) p' q l = if p' = p ∧ q.val / 128 = b.val then (L.map fun x => (x.1, (x.2 (ix2 q l) : EReal))).foldl cin (colAt T p q l) else colAt T p' q l := by
  by_cases hc : p' = p ∧ q.val / 128 = b.val
  · obtain ⟨rfl, hq⟩ := hc
    have hq' : q.val = 128 * b.val + (⟨q.val % 128, by omega⟩ : Fin 128).val := by show q.val = 128 * b.val + q.val % 128; omega
    rw [if_pos ⟨rfl, hq⟩, ← bestAt_bestOf p' b T _ l q hq', ← bestAt_insL b _ l q hq']
    unfold colAt bestAt
    rw [tile_fst, tile_snd]
    simp only [setV_apply, setI_apply, hq, and_true, true_and]
    simp
  · rw [if_neg hc]
    have : ∀ P : Prop, ¬ (p' = p ∧ P ∧ q.val / 128 = b.val) := fun P h => hc ⟨h.1, h.2.2⟩
    unfold colAt
    rw [tile_fst, tile_snd]
    simp only [setV_apply, setI_apply, if_neg (this _)]

theorem colAt_tiles (p : Fin 4) (L : List (BitVec 32 × FVec Ideal S1024x128 .f32)) (p' : Fin 4) (q : Fin 1024) (l : Fin 128) :
    ∀ (n b : ℕ) (h : n + b ≤ 8) (T : TV Ideal × TI Ideal), colAt (tiles p L n b h T) p' q l
      = if p' = p ∧ b ≤ q.val / 128 ∧ q.val / 128 < b + n then (L.map fun x => (x.1, (x.2 (ix2 q l) : EReal))).foldl cin (colAt T p q l) else colAt T p' q l
  | 0, b, h, T => by rw [if_neg (by omega)]; rfl
  | n + 1, b, h, T => by
    rw [tiles, colAt_tiles p L p' q l n (b + 1)]
    by_cases hp : p' = p
    · subst hp
      rw [colAt_tile]
      simp only [true_and]
      split_ifs <;> first | rfl | (exfalso; omega)
    · rw [if_neg (fun h => hp h.1), if_neg (fun h => hp h.1), colAt_tile, if_neg (fun h => hp h.1)]

theorem colAt_cls (j : BitVec 32) (Q : FVec Ideal S1024x128 .f32) (B : BC Ideal) (p : Fin 4) (T : TV Ideal × TI Ideal) (p' : Fin 4) (q : Fin 1024) (l : Fin 128) :
    colAt (cls j Q B p T) p' q l
      = if p' = p then ((panels j Q B (classFrom p 16 0 (by decide))).map fun x => (x.1, (x.2 (ix2 q l) : EReal))).foldl cin (colAt T p q l) else colAt T p' q l := by
  unfold cls
  rw [colAt_tiles]
  have := q.isLt
  by_cases hp : p' = p
  · rw [if_pos ⟨hp, by omega, by omega⟩, if_pos hp]
  · rw [if_neg (fun h => hp h.1), if_neg hp]

/-- One block, at a column. -/
theorem colAt_fstep (j : BitVec 32) (Q : FVec Ideal S1024x128 .f32) (B : BC Ideal) (T : TV Ideal × TI Ideal) (p : Fin 4) (q : Fin 1024) (l : Fin 128) :
    colAt (fstep j Q B T) p q l
      = ((panels j Q B (classFrom p 16 0 (by decide))).map fun x => (x.1, (x.2 (ix2 q l) : EReal))).foldl cin (colAt T p q l) := by
  unfold fstep
  simp only [colAt_cls]
  fin_cases p <;> simp

theorem colAt_tab0 (p : Fin 4) (q : Fin 1024) (l : Fin 128) : colAt (tab0 (F := Ideal)) p q l = ⟨neg, neg, neg, 0#32, 0#32⟩ := rfl

end Cert.Kernel.Body

end
-- ==== Proof.Scores.lean ====
/-
  The scores: what a staged block of columns holds, and the scores a panel of the fast call and a block of the naive call
  have at the extended reals.
-/
module

public import proofs.«01_k».proof.Proof.Tables
public import proofs.«01_k».proof.Proof.Region0
public import proofs.«01_k».proof.Proof.Region1
public import Idealize.ShloMosaic.Lib.MatmulPlain

@[expose] public section

noncomputable section

namespace Cert.Kernel.Body

open Idealize.ShloMosaic Idealize.ShloMosaic.TcCoe
open Cert.Kernel Cert.Kernel.Facts₀ Cert.Kernel.Facts Cert.Kernel.Ranks Cert.Kernel.Rows

variable [Facts]

/-- The score of row `q` against column `n` (nothing, past the last). -/
def sc (Aq : S1024x128.Idx → EReal) (Ac : S100000x128.Idx → EReal) (q : Fin 1024) (n : ℕ) : EReal :=
  if h : n < 100000 then ∑ k : Fin 128, Aq (ix2 q k) * Ac (ix2 ⟨n, h⟩ k) else 0

/-- What the programs compare: the score, or the filler past the last column. -/
def scz (Aq : S1024x128.Idx → EReal) (Ac : S100000x128.Idx → EReal) (q : Fin 1024) (n : ℕ) : EReal :=
  if n < 100000 then sc Aq Ac q n else neg

/-- A block of columns holds the columns that exist. -/
def IsBlk (Ac : S100000x128.Idx → EReal) (j : ℕ) (B : BC Ideal) : Prop :=
  ∀ (r : Fin 8192) (k : Fin 128) (h : 8192 * j + r.val < 100000), B (ix2 r k) = Ac (ix2 ⟨8192 * j + r.val, h⟩ k)

theorem block0 : ∀ t : Fin grid0.N, cc0_transform_1 (grid0.coords t) 0 = t.val ∧ cc0_transform_1 (grid0.coords t) 1 = 0
    ∧ (Pipeline.Clip.of (cc0_transform_1 (grid0.coords t) 0) 8192 100000).extent 8192 = min 8192 (100000 - 8192 * t.val)
    ∧ (Pipeline.Clip.of (cc0_transform_1 (grid0.coords t) 1) 128 128).extent 128 = 128 := by
  decide +kernel

theorem block1 : ∀ t : Fin grid1.N, cc1_transform_1 (grid1.coords t) 0 = t.val ∧ cc1_transform_1 (grid1.coords t) 1 = 0
    ∧ (Pipeline.Clip.of (cc1_transform_1 (grid1.coords t) 0) 8192 100000).extent 8192 = min 8192 (100000 - 8192 * t.val)
    ∧ (Pipeline.Clip.of (cc1_transform_1 (grid1.coords t) 1) 128 128).extent 128 = 128 := by
  decide +kernel

theorem isB0_blk {Ac : S100000x128.Idx → EReal} {t : Fin cfg0.N} {B : BC Ideal} (h : isB0 (F := Ideal) Ac t B) : IsBlk Ac t.val B := by
  obtain ⟨d, rfl⟩ := h
  intro r k hn
  obtain ⟨o0, o1, x0, x1⟩ := block0 t
  have hm : (cfg0.win 1).moved (cfg0.grid.coords t) (ix2 r k) = true := by
    refine (Pipeline.Window.moved_iff _ _ _).mpr fun a => ?_
    match a with
    | ⟨0, _⟩ => exact lt_of_lt_of_eq (show r.val < _ by omega) x0.symm
    | ⟨1, _⟩ => exact lt_of_lt_of_eq k.isLt x1.symm
  refine (dif_pos hm).trans ?_
  show Ac _ = Ac _
  congr 1
  funext a
  match a with
  | ⟨0, _⟩ =>
    refine Fin.ext ?_
    show cc0_transform_1 (grid0.coords t) 0 * 8192 + 1 * r.val = 8192 * t.val + r.val
    rw [o0]; omega
  | ⟨1, _⟩ =>
    refine Fin.ext ?_
    show cc0_transform_1 (grid0.coords t) 1 * 128 + 1 * k.val = k.val
    rw [o1]; omega

theorem isB1_blk {Ac : S100000x128.Idx → EReal} {t : Fin cfg1.N} {B : BC Ideal} (h : isB1 (F := Ideal) Ac t B) : IsBlk Ac t.val B := by
  obtain ⟨d, rfl⟩ := h
  intro r k hn
  obtain ⟨o0, o1, x0, x1⟩ := block1 t
  have hm : (cfg1.win 1).moved (cfg1.grid.coords t) (ix2 r k) = true := by
    refine (Pipeline.Window.moved_iff _ _ _).mpr fun a => ?_
    match a with
    | ⟨0, _⟩ => exact lt_of_lt_of_eq (show r.val < _ by omega) x0.symm
    | ⟨1, _⟩ => exact lt_of_lt_of_eq k.isLt x1.symm
  refine (dif_pos hm).trans ?_
  show Ac _ = Ac _
  congr 1
  funext a
  match a with
  | ⟨0, _⟩ =>
    refine Fin.ext ?_
    show cc1_transform_1 (grid1.coords t) 0 * 8192 + 1 * r.val = 8192 * t.val + r.val
    rw [o0]; omega
  | ⟨1, _⟩ =>
    refine Fin.ext ?_
    show cc1_transform_1 (grid1.coords t) 1 * 128 + 1 * k.val = k.val
    rw [o1]; omega

/-- The queries' window is the whole array. -/
theorem isQ0_eq {Aq : S1024x128.Idx → EReal} {t : Fin cfg0.N} {Q : S1024x128.Idx → EReal} (h : isQ0 (F := Ideal) Aq t Q) : Q = Aq := by
  obtain ⟨d, rfl⟩ := h
  funext i
  show Aq _ = Aq i
  congr 1
  funext a
  match a with
  | ⟨0, _⟩ => exact Fin.ext (show 0 * 1024 + 1 * (i 0).val = (i 0).val by omega)
  | ⟨1, _⟩ => exact Fin.ext (show 0 * 128 + 1 * (i 1).val = (i 1).val by omega)

theorem isQ1_eq {Aq : S1024x128.Idx → EReal} {t : Fin cfg1.N} {Q : S1024x128.Idx → EReal} (h : isQ1 (F := Ideal) Aq t Q) : Q = Aq := by
  obtain ⟨d, rfl⟩ := h
  funext i
  show Aq _ = Aq i
  congr 1
  funext a
  match a with
  | ⟨0, _⟩ => exact Fin.ext (show 0 * 1024 + 1 * (i 0).val = (i 0).val by omega)
  | ⟨1, _⟩ => exact Fin.ext (show 0 * 128 + 1 * (i 1).val = (i 1).val by omega)

theorem below_last (n : ℕ) (h : n < 2147483648) : IntOp.cmpi .slt (BitVec.ofNat 32 n) 100000#32 = BitVec.ofBool (decide (n < 100000)) := by
  have e : (BitVec.ofNat 32 n).toInt = n := by
    rw [BitVec.toInt_eq_toNat_of_lt (by rw [BitVec.toNat_ofNat]; omega), BitVec.toNat_ofNat]; omega
  show BitVec.ofBool (BitVec.slt _ _) = _
  rw [BitVec.slt, e, show (100000#32 : BitVec 32).toInt = 100000 from rfl]
  exact congrArg BitVec.ofBool (decide_eq_decide.mpr (by omega))

theorem gW_eq (j : ℕ) (t : Fin 64) : gW (BitVec.ofNat 32 j) t = BitVec.ofNat 32 (64 * j + t.val) := by
  show BitVec.ofNat 32 j * 64#32 + BitVec.ofNat 32 t.val = _
  apply BitVec.eq_of_toNat_eq
  simp only [BitVec.toNat_add, BitVec.toNat_mul, BitVec.toNat_ofNat]
  omega

theorem zeroW : (Ideal.ofBits .f32 0x00000000#32 : EReal) = 0 := by simp [Ideal.ofBits, Ideal.ieee]

/-- A panel at an index is the score of its column. -/
theorem panelV_apply (Aq : S1024x128.Idx → EReal) (Ac : S100000x128.Idx → EReal) {j : ℕ} (hj : j < 13) {B : BC Ideal} (hB : IsBlk Ac j B)
    (t : Fin 64) (q : Fin 1024) (l : Fin 128) :
    (panelV (F := Ideal) (BitVec.ofNat 32 j) Aq t (get (rC t) B) (ix2 q l) : EReal) = scz Aq Ac q (128 * (64 * j + t.val) + l.val) := by
  have ew : (gW (BitVec.ofNat 32 j) t * 128#32 + BitVec.ofNat 32 l.val : BitVec 32) = BitVec.ofNat 32 (128 * (64 * j + t.val) + l.val) := by
    rw [gW_eq]
    apply BitVec.eq_of_toNat_eq
    simp only [BitVec.toNat_add, BitVec.toNat_mul, BitVec.toNat_ofNat]
    omega
  have hl := l.isLt
  have ht := t.isLt
  show Scalar.select (IntOp.cmpi .slt (gW (BitVec.ofNat 32 j) t * 128#32 + lane (ix2 q l)) 100000#32) _ neg = _
  rw [lane_row, ew, below_last _ (by omega), select_ofBool]
  unfold scz sc
  by_cases h : 128 * (64 * j + t.val) + l.val < 100000
  · rw [if_pos (by simpa using h), if_pos h, dif_pos h]
    refine (Ideal.matmul_transposedRhs_apply (M := 1024) (K := 128) (N := 128) none Aq (shapeCast S128x128 (get (rC t) B) shapeCasts_S128x128_S128x128) _ q l).trans ?_
    refine (congrArg (· + _) zeroW).trans ((zero_add _).trans (Finset.sum_congr rfl fun k _ => ?_))
    congr 1
    refine (congrFun (cast_same (get (rC t) B) _) _).trans ?_
    have e : (rC t).emb (ix2 l k) = ix2 (⟨128 * t.val + l.val, by omega⟩ : Fin 8192) k := by
      funext a
      match a with
      | ⟨0, _⟩ => exact Fin.ext (show 128 * t.val + 1 * l.val = 128 * t.val + l.val by omega)
      | ⟨1, _⟩ => exact Fin.ext (show 0 + 1 * k.val = k.val by omega)
    show B ((rC t).emb (ix2 l k)) = _
    rw [e, hB _ _ (show 8192 * j + (128 * t.val + l.val) < 100000 by omega)]
    congr 2
    exact Fin.ext (show 8192 * j + (128 * t.val + l.val) = 128 * (64 * j + t.val) + l.val by omega)
  · rw [if_neg (by simpa using h), if_neg h]

theorem colN_apply (j : ℕ) (q : Fin 1024) (r : Fin 8192) : colN (BitVec.ofNat 32 j) (ix2 q r) = BitVec.ofNat 32 (8192 * j + r.val) := by
  have e : (iota .tc S1024x8192 32 [1] iota_S1024x8192_d1_w32) (ix2 q r) = BitVec.ofNat 32 r.val := by
    simp only [pointwise]
    refine congrArg (BitVec.ofNat 32) ?_
    show 0 * 8192 + r.val = r.val
    omega
  show BitVec.ofNat 32 j * 8192#32 + (iota .tc S1024x8192 32 [1] iota_S1024x8192_d1_w32) (ix2 q r) = _
  rw [e]
  apply BitVec.eq_of_toNat_eq
  simp only [BitVec.toNat_add, BitVec.toNat_mul, BitVec.toNat_ofNat]
  omega

/-- A naive block's score at an index. -/
theorem scoreN_apply (Aq : S1024x128.Idx → EReal) (Ac : S100000x128.Idx → EReal) {j : ℕ} (hj : j < 13) {B : BC Ideal} (hB : IsBlk Ac j B)
    (q : Fin 1024) (r : Fin 8192) : (scoreN (F := Ideal) (BitVec.ofNat 32 j) Aq B (ix2 q r) : EReal) = scz Aq Ac q (8192 * j + r.val) := by
  have hr := r.isLt
  show Scalar.select (IntOp.cmpi .slt (colN (BitVec.ofNat 32 j) (ix2 q r)) 100000#32) _ neg = _
  rw [colN_apply, below_last _ (by omega), select_ofBool]
  unfold scz sc
  by_cases h : 8192 * j + r.val < 100000
  · rw [if_pos (by simpa using h), if_pos h, dif_pos h]
    refine (Ideal.matmul_transposedRhs_apply (M := 1024) (K := 128) (N := 8192) none (shapeCast S1024x128 Aq shapeCasts_S1024x128_S1024x128) (shapeCast S8192x128 B shapeCasts_S8192x128_S8192x128) _ q r).trans ?_
    refine (congrArg (· + _) zeroW).trans ((zero_add _).trans (Finset.sum_congr rfl fun k _ => ?_))
    exact congrArg₂ (· * ·) (congrFun (cast_same Aq _) _) ((congrFun (cast_same B _) _).trans (hB r k h))
  · rw [if_neg (by simpa using h), if_neg h]

end Cert.Kernel.Body

end
-- ==== Proof.Bound.lean ====
/-
  Rows divided by their norms have every element between -1 and 1, so that a score is never the marker of an empty place.
-/
module

public import proofs.«01_k».proof.Proof.Scores
public import Idealize.ShloMosaic.Lib.Pointwise.Tactic
public import Idealize.ShloMosaic.Lib.Pointwise.Reduce

@[expose] public section

noncomputable section

namespace Cert.Kernel.Body

open Idealize.ShloMosaic Idealize.ShloMosaic.TcCoe
open Cert.Kernel Cert.Kernel.Facts₀ Cert.Kernel.Facts Cert.Kernel.Ranks Cert.Kernel.Rows

/-- Finite values' sum. -/
theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem sq_nonneg' (x : EReal) : 0 ≤ x * x := by
  induction x with
  | bot => simp
  | top => simp
  | coe r => rw [← EReal.coe_mul]; exact_mod_cast mul_self_nonneg r

theorem sq_top (x : EReal) (h : ¬ ∃ r : ℝ, x = r) : x * x = ⊤ := by
  induction x with
  | bot => simp
  | top => simp
  | coe r => exact absurd ⟨r, rfl⟩ h

/-- An element over its row's norm. -/
theorem unit_bound {n : ℕ} (x : Fin n → EReal) (ε : ℝ) (hε : 0 < ε) (i : Fin n) :
    ∃ r : ℝ, Ideal.div (x i) (Ideal.sqrt (0 + ∑ k, x k * x k) + (ε : EReal)) = r ∧ |r| ≤ 1 := by
  rw [zero_add]
  by_cases hx : ∀ k, ∃ r : ℝ, x k = r
  · choose y hy using hx
    have hs : ∑ k, x k * x k = ((∑ k, y k * y k : ℝ) : EReal) := by
      rw [← coe_sum]; exact Finset.sum_congr rfl fun k _ => by rw [hy k, EReal.coe_mul]
    have h0 : 0 ≤ ∑ k, y k * y k := Finset.sum_nonneg fun k _ => mul_self_nonneg _
    have hi : |y i| ≤ Real.sqrt (∑ k, y k * y k) := by
      rw [← Real.sqrt_mul_self_eq_abs]
      exact Real.sqrt_le_sqrt (Finset.single_le_sum (f := fun k => y k * y k) (fun k _ => mul_self_nonneg _) (Finset.mem_univ i))
    have hp : 0 < Real.sqrt (∑ k, y k * y k) + ε := add_pos_of_nonneg_of_pos (Real.sqrt_nonneg _) hε
    refine ⟨y i * (Real.sqrt (∑ k, y k * y k) + ε)⁻¹, ?_, ?_⟩
    · rw [hs, hy i, Ideal.sqrt_coe, if_neg (not_lt.mpr h0), ← EReal.coe_add]
      unfold Ideal.div
      rw [if_neg (by exact_mod_cast hp.ne'), ← EReal.coe_inv, ← EReal.coe_mul]
    · rw [abs_mul, abs_of_pos (inv_pos.mpr hp), ← div_eq_mul_inv, div_le_one hp]
      linarith
  · obtain ⟨k, hk⟩ := not_forall.mp hx
    have ht : ∑ k, x k * x k = ⊤ := top_le_iff.mp (by
      rw [← sq_top (x k) hk]
      exact Finset.single_le_sum (f := fun k => x k * x k) (fun k _ => sq_nonneg' _) (Finset.mem_univ k))
    refine ⟨0, ?_, by simp⟩
    rw [ht, Ideal.sqrt_top, EReal.top_add_coe]
    unfold Ideal.div
    rw [if_neg (by simp)]
    simp

/-- The guard against a zero norm. -/
theorem eps_pos : ∃ ε : ℝ, 0 < ε ∧ Ideal.ofBits .f32 0x322BCC77#32 = (ε : EReal) := by
  refine ⟨_, ?_, by simp [Ideal.ofBits, Ideal.ieee]; rfl⟩
  positivity

/-- A sum of products of such elements is finite and no less than minus the count. -/
theorem dot_bound {n : ℕ} (a b : Fin n → EReal) (ha : ∀ k, ∃ r : ℝ, a k = r ∧ |r| ≤ 1) (hb : ∀ k, ∃ r : ℝ, b k = r ∧ |r| ≤ 1) :
    ((-(n : ℝ) : ℝ) : EReal) ≤ ∑ k, a k * b k := by
  choose x hx hx' using ha
  choose y hy hy' using hb
  have hs : ∑ k, a k * b k = ((∑ k, x k * y k : ℝ) : EReal) := by
    rw [← coe_sum]; exact Finset.sum_congr rfl fun k _ => by rw [hx k, hy k, EReal.coe_mul]
  rw [hs, EReal.coe_le_coe_iff]
  have : ∑ _k : Fin n, (-1 : ℝ) ≤ ∑ k, x k * y k := Finset.sum_le_sum fun k _ => by
    have h : |x k * y k| ≤ 1 := by rw [abs_mul]; exact mul_le_one₀ (hx' k) (abs_nonneg _) (hy' k)
    exact (abs_le.mp h).1
  simpa using this

theorem neg_lt : neg < ((-(128 : ℕ) : ℝ) : EReal) := by
  have h : neg = ((-(14791142 * 2 ^ 104 : ℝ) : ℝ) : EReal) := by
    change Ideal.ofBits .f32 0xFF61B1E6#32 = _
    simp [Ideal.ofBits, Ideal.ieee]
  rw [h, EReal.coe_lt_coe_iff]
  norm_num

variable [Facts]

/-- The rows of the first array, weighted and divided by their norms, -/
def qnOf {F : FTy → Type} [FloatOps F] (a : (⟨S1024x128, .f32⟩ : BufTy).Contents (Elt F)) (w : (⟨S128, .f32⟩ : BufTy).Contents (Elt F)) : (⟨S1024x128, .f32⟩ : BufTy).Contents (Elt F) :=
  Host.divf (mulf a (broadcastInDim S1024x128 ![0, 1] bcast_S1x128_S1024x128_0_1 (broadcastInDim S1x128 ![1] bcast_S128_S1x128_1 w)))
    (broadcastInDim S1024x128 ![0, 1] bcast_S1024x1_S1024x128_0_1 (addf (Host.sqrt (broadcastInDim S1024x1 ![0] bcast_S1024_S1024x1_0
      (Host.reduceAdd (mulf (mulf a (broadcastInDim S1024x128 ![0, 1] bcast_S1x128_S1024x128_0_1 (broadcastInDim S1x128 ![1] bcast_S128_S1x128_1 w)))
        (mulf a (broadcastInDim S1024x128 ![0, 1] bcast_S1x128_S1024x128_0_1 (broadcastInDim S1x128 ![1] bcast_S128_S1x128_1 w))))
        (constant S_ .f32 0x00000000#32) reducesTo_S1024x128_S1024_d1 h_S_))) (broadcastInDim S1024x1 ![] bcast_S_S1024x1 (constant S_ .f32 0x322BCC77#32))))
/-- and of the second. -/
def cnOf {F : FTy → Type} [FloatOps F] (a : (⟨S100000x128, .f32⟩ : BufTy).Contents (Elt F)) (w : (⟨S128, .f32⟩ : BufTy).Contents (Elt F)) : (⟨S100000x128, .f32⟩ : BufTy).Contents (Elt F) :=
  Host.divf (mulf a (broadcastInDim S100000x128 ![0, 1] bcast_S1x128_S100000x128_0_1 (broadcastInDim S1x128 ![1] bcast_S128_S1x128_1 w)))
    (broadcastInDim S100000x128 ![0, 1] bcast_S100000x1_S100000x128_0_1 (addf (Host.sqrt (broadcastInDim S100000x1 ![0] bcast_S100000_S100000x1_0
      (Host.reduceAdd (mulf (mulf a (broadcastInDim S100000x128 ![0, 1] bcast_S1x128_S100000x128_0_1 (broadcastInDim S1x128 ![1] bcast_S128_S1x128_1 w)))
        (mulf a (broadcastInDim S100000x128 ![0, 1] bcast_S1x128_S100000x128_0_1 (broadcastInDim S1x128 ![1] bcast_S128_S1x128_1 w))))
        (constant S_ .f32 0x00000000#32) reducesTo_S100000x128_S100000_d1 h_S_))) (broadcastInDim S100000x1 ![] bcast_S_S100000x1 (constant S_ .f32 0x322BCC77#32))))

theorem qn_unit (a : (⟨S1024x128, .f32⟩ : BufTy).Contents (Elt Ideal)) (w : (⟨S128, .f32⟩ : BufTy).Contents (Elt Ideal)) (q : Fin 1024) (k : Fin 128) :
    ∃ r : ℝ, (qnOf a w (ix2 q k) : EReal) = r ∧ |r| ≤ 1 := by
  obtain ⟨ε, hε, he⟩ := eps_pos
  obtain ⟨r, h, hr⟩ := unit_bound (fun k => (a (ix2 q k) : EReal) * (w (ix1 k) : EReal)) ε hε k
  refine ⟨r, Eq.trans ?_ h, hr⟩
  rw [← he]
  unfold qnOf
  simp only [pointwise]
  rfl

theorem cn_unit (a : (⟨S100000x128, .f32⟩ : BufTy).Contents (Elt Ideal)) (w : (⟨S128, .f32⟩ : BufTy).Contents (Elt Ideal)) (n : Fin 100000) (k : Fin 128) :
    ∃ r : ℝ, (cnOf a w (ix2 n k) : EReal) = r ∧ |r| ≤ 1 := by
  obtain ⟨ε, hε, he⟩ := eps_pos
  obtain ⟨r, h, hr⟩ := unit_bound (fun k => (a (ix2 n k) : EReal) * (w (ix1 k) : EReal)) ε hε k
  refine ⟨r, Eq.trans ?_ h, hr⟩
  rw [← he]
  unfold cnOf
  simp only [pointwise]
  rfl

/-- So every score lies above the marker. -/
theorem neg_lt_sc (a : (⟨S1024x128, .f32⟩ : BufTy).Contents (Elt Ideal)) (b : (⟨S100000x128, .f32⟩ : BufTy).Contents (Elt Ideal)) (w : (⟨S128, .f32⟩ : BufTy).Contents (Elt Ideal))
    (q : Fin 1024) (n : ℕ) (hn : n < 100000) : neg < sc (qnOf a w) (cnOf b w) q n := by
  unfold sc
  rw [dif_pos hn]
  exact lt_of_lt_of_le neg_lt (dot_bound _ _ (qn_unit a w q) (cn_unit b w ⟨n, hn⟩))

end Cert.Kernel.Body

end
-- ==== Proof.HostVals.lean ====
/-
  What the host hands the calls: the two arrays' weighted rows over their norms.
-/
module

public import proofs.«01_k».proof.Proof.RunMain
public import proofs.«01_k».proof.Proof.Frame
public import proofs.«01_k».proof.Proof.Bound
public import Idealize.ShloMosaic.Lib.StableHlo.Run

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Rounds
open Idealize.ShloMosaic.Pipeline (RDat Cfg Window)

variable {F : FTy → Type} [FloatOps F]
variable (m : (ℓ : Loc nD τ sig) → Buf (Elt F) ℓ)

theorem V5_v10 (c : Dev nD) : (V5 m c main_v10 : (⟨S1024x128, .f32⟩ : BufTy).Contents (Elt F)) = qnOf (m (c, main_arg0)) (m (c, main_arg2)) := by
  unfold V5 V4 V3 V2 V1
  simp only [hostOps0, hostOps0_1, hostOps0_2, hostOps0_3, hostOps0_4, StableHlo.TRef.binary, StableHlo.TRef.nullary, StableHlo.TRef.unary, StableHlo.TRef.toBuf, StableHlo.TRef.ofBuf, cast_eq]
  after_results
  rfl

theorem V5_v15 (c : Dev nD) : (V5 m c main_v15 : (⟨S100000x128, .f32⟩ : BufTy).Contents (Elt F)) = cnOf (m (c, main_arg1)) (m (c, main_arg2)) := by
  unfold V5 V4 V3 V2 V1
  simp only [hostOps0, hostOps0_1, hostOps0_2, hostOps0_3, hostOps0_4, StableHlo.TRef.binary, StableHlo.TRef.nullary, StableHlo.TRef.unary, StableHlo.TRef.toBuf, StableHlo.TRef.ofBuf, cast_eq]
  after_results
  rfl

end Cert.Kernel.Body

end
-- ==== Proof.Arrays.lean ====
/-
  What each call leaves in its results' arrays: the tables' results at the last point.
-/
module

public import proofs.«01_k».proof.Proof.Run
public import Idealize.ShloMosaic.Lib.Pipeline.ArrRel

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Rounds
open Idealize.ShloMosaic.Pipeline (RDat Cfg Window)

variable {F : FTy → Type} [FloatOps F]
variable (V : Dev nD → Valuation τ sig (Elt F))

theorem whole0_2 : (cfg0.win 2).WholeAt ⟨12, by decide⟩ := by decide +kernel
theorem whole0_3 : (cfg0.win 3).WholeAt ⟨12, by decide⟩ := by decide +kernel
theorem whole0_4 : (cfg0.win 4).WholeAt ⟨12, by decide⟩ := by decide +kernel
theorem whole1_2 : (cfg1.win 2).WholeAt ⟨12, by decide⟩ := by decide +kernel
theorem whole1_3 : (cfg1.win 3).WholeAt ⟨12, by decide⟩ := by decide +kernel

theorem last0 : k0_cond2 (grid0.coords ⟨12, by decide⟩) = 1#1 := by decide +kernel
theorem last1 : k1_cond2 (grid1.coords ⟨12, by decide⟩) = 1#1 := by decide +kernel

/-- The fast call's. -/
theorem left0_out (c : Dev nD) (W W' : Valuation τ sig (Elt F)) (h : Left V 0 c W W') :
    (∃ T, Reach0 (V c main_v10) (V c main_v15) 13 T ∧ W' main_v16_0 = outV T)
    ∧ (∃ T, Reach0 (V c main_v10) (V c main_v15) 13 T ∧ W' main_v16_1 = outI T)
    ∧ (∃ T, Reach0 (V c main_v10) (V c main_v15) 13 T ∧ W' main_v16_2 = outF T) := by
  have h2 : (rd0 V c).ArrAt 2 cfg0.N (W' main_v16_0) := h.1 (2 : Fin 5)
  have h3 : (rd0 V c).ArrAt 3 cfg0.N (W' main_v16_1) := h.1 (3 : Fin 5)
  have h4 : (rd0 V c).ArrAt 4 cfg0.N (W' main_v16_2) := h.1 (4 : Fin 5)
  refine ⟨?_, ?_, ?_⟩
  · obtain ⟨X, ⟨Y, -, hX⟩, hj⟩ := h2.emb_eq_of_wholeAt whole0_2
    obtain ⟨T, hT, rfl⟩ := hX last0
    exact ⟨T, hT, funext fun j => hj j⟩
  · obtain ⟨X, ⟨Y, -, hX⟩, hj⟩ := h3.emb_eq_of_wholeAt whole0_3
    obtain ⟨T, hT, rfl⟩ := hX last0
    exact ⟨T, hT, funext fun j => hj j⟩
  · obtain ⟨X, ⟨Y, -, hX⟩, hj⟩ := h4.emb_eq_of_wholeAt whole0_4
    obtain ⟨T, hT, rfl⟩ := hX last0
    exact ⟨T, hT, funext fun j => hj j⟩

/-- The naive call's. -/
theorem left1_out (c : Dev nD) (W W' : Valuation τ sig (Elt F)) (h : Left V 1 c W W') :
    (∃ T, Reach1 (V c main_v10) (V c main_v15) 13 T ∧ W' main_case0b1_v21_0 = T.1)
    ∧ (∃ T, Reach1 (V c main_v10) (V c main_v15) 13 T ∧ W' main_case0b1_v21_1 = T.2) := by
  have h2 : (rd1 V c).ArrAt 2 cfg1.N (W' main_case0b1_v21_0) := h.1 (2 : Fin 4)
  have h3 : (rd1 V c).ArrAt 3 cfg1.N (W' main_case0b1_v21_1) := h.1 (3 : Fin 4)
  refine ⟨?_, ?_⟩
  · obtain ⟨X, ⟨Y, -, hX⟩, hj⟩ := h2.emb_eq_of_wholeAt whole1_2
    obtain ⟨T, hT, rfl⟩ := hX last1
    exact ⟨T, hT, funext fun j => hj j⟩
  · obtain ⟨X, ⟨Y, -, hX⟩, hj⟩ := h3.emb_eq_of_wholeAt whole1_3
    obtain ⟨T, hT, rfl⟩ := hX last1
    exact ⟨T, hT, funext fun j => hj j⟩

end Cert.Kernel.Body

end
-- ==== Proof.Flags.lean ====
/-
  The host's branch: the first arm is taken only when no flag stands.
-/
module

public import proofs.«01_k».proof.Proof.Run
public import Idealize.ShloMosaic.Lib.StableHlo.Run

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Rounds
open Idealize.ShloMosaic.Pipeline (RDat Cfg Window)

variable {F : FTy → Type} [FloatOps F]
/-- A fold of signed maxima bounds every element met. -/
theorem le_fold_maxsi {ι : Type} (f : ι → BitVec 32) : ∀ (l : List ι) (z : BitVec 32),
    z.toInt ≤ (l.foldl (fun r n => IntOp.maxsi r (f n)) z).toInt ∧ ∀ i ∈ l, (f i).toInt ≤ (l.foldl (fun r n => IntOp.maxsi r (f n)) z).toInt
  | [], z => ⟨le_refl _, fun _ h => nomatch h⟩
  | a :: l, z => by
    obtain ⟨h0, h1⟩ := le_fold_maxsi f l (IntOp.maxsi z (f a))
    have hz : z.toInt ≤ (IntOp.maxsi z (f a)).toInt ∧ (f a).toInt ≤ (IntOp.maxsi z (f a)).toInt := by
      unfold IntOp.maxsi
      rw [BitVec.slt_eq_decide]
      by_cases h : (f a).toInt < z.toInt
      · simp [h, h.le]
      · simp [h, not_lt.mp h]
    refine ⟨hz.1.trans h0, fun i hi => ?_⟩
    rcases List.mem_cons.mp hi with rfl | hi
    · exact hz.2.trans h0
    · exact h1 i hi

/-- The read word. -/
theorem word_eq (W : Valuation τ sig (Elt F)) : word (StableHlo.after hostOps1 W)
    = (IntOp.cmpi .sgt (Host.reduce IntOp.maxsi (W main_v16_2 : (⟨S1024x128, .i32⟩ : BufTy).Contents (Elt F)) (constantI S_ 32 2147483648#32) reducesTo_S1024x128_S_d0_1 h_S_ HostLoop.idx0) 0#32).setWidth 32 := by
  unfold word
  simp only [hostOps1]
  after_results
  rfl

/-- Where the first arm is taken no flag is positive. -/
theorem flags_of_branch (W : Valuation τ sig (Elt F)) (h : HostLoop.branch (word (StableHlo.after hostOps1 W)) 1 = 0) (j : S1024x128.Idx) :
    ((W main_v16_2 : (⟨S1024x128, .i32⟩ : BufTy).Contents (Elt F)) j : BitVec 32).toInt ≤ 0 := by
  rw [word_eq] at h
  have hle : ((W main_v16_2 : (⟨S1024x128, .i32⟩ : BufTy).Contents (Elt F)) j : BitVec 32).toInt
      ≤ (Host.reduce IntOp.maxsi (W main_v16_2 : (⟨S1024x128, .i32⟩ : BufTy).Contents (Elt F)) (constantI S_ 32 2147483648#32) reducesTo_S1024x128_S_d0_1 h_S_ HostLoop.idx0 : BitVec 32).toInt := by
    have := (le_fold_maxsi (fun n => (W main_v16_2 : (⟨S1024x128, .i32⟩ : BufTy).Contents (Elt F)) (S1024x128.rowMajor.symm n))
      ((List.finRange S1024x128.numel).filter fun n => reducesTo_S1024x128_S_d0_1.drop (S1024x128.rowMajor.symm n) = HostLoop.idx0) (2147483648#32)).2
      (S1024x128.rowMajor j) (List.mem_filter.mpr ⟨List.mem_finRange _, decide_eq_true (funext fun a => a.elim0)⟩)
    simp only [Equiv.symm_apply_apply] at this
    exact this
  generalize (Host.reduce IntOp.maxsi (W main_v16_2 : (⟨S1024x128, .i32⟩ : BufTy).Contents (Elt F)) (constantI S_ 32 2147483648#32) reducesTo_S1024x128_S_d0_1 h_S_ HostLoop.idx0 : BitVec 32) = r at h hle
  refine hle.trans (not_lt.mp fun hr => ?_)
  have e : IntOp.cmpi .sgt r 0#32 = 1#1 := by
    unfold IntOp.cmpi
    simp [BitVec.slt_eq_decide, hr]
  rw [e] at h
  exact absurd h (by decide)

end Cert.Kernel.Body

end
-- ==== Proof.FastHeld.lean ====
/-
  The fast call's tables after every point: each column holds the best three of the scores of its chunks, whatever the
  staging buffers held past the last column.
-/
module

public import proofs.«01_k».proof.Proof.Scores

@[expose] public section

noncomputable section

namespace Cert.Kernel.Body

open Idealize.ShloMosaic Idealize.ShloMosaic.TcCoe
open Cert.Kernel Cert.Kernel.Facts₀ Cert.Kernel.Facts Cert.Kernel.Ranks Cert.Kernel.Rows

open Cert.Kernel.Column

variable [Facts] (Aq : S1024x128.Idx → EReal) (Ac : S100000x128.Idx → EReal)

/-- What the panels of chunks `ts` of block `j` give at a row and a lane. -/
def colP (q : Fin 1024) (l : Fin 128) (j : ℕ) (ts : List (Fin 64)) : List (BitVec 32 × EReal) :=
  ts.map fun t => (BitVec.ofNat 32 (64 * j + t.val), scz Aq Ac q (128 * (64 * j + t.val) + l.val))

/-- A column after the blocks before `j`. -/
def colF (p : Fin 4) (q : Fin 1024) (l : Fin 128) : ℕ → Col
  | 0 => ⟨neg, neg, neg, 0#32, 0#32⟩
  | j + 1 => (colP Aq Ac q l j (classFrom p 16 0 (by decide))).foldl cin (colF p q l j)

theorem colAt_block {j : ℕ} (hj : j < 13) {B : BC Ideal} (hB : IsBlk Ac j B) (T : TV Ideal × TI Ideal) (p : Fin 4) (q : Fin 1024) (l : Fin 128) :
    colAt (fstep (F := Ideal) (BitVec.ofNat 32 j) Aq B T) p q l = (colP Aq Ac q l j (classFrom p 16 0 (by decide))).foldl cin (colAt T p q l) := by
  rw [colAt_fstep]
  congr 1
  unfold panels colP
  rw [List.map_map]
  refine List.map_congr_left fun t _ => ?_
  exact Prod.ext (gW_eq j t) (panelV_apply Aq Ac hj hB t q l)

theorem coord0 : ∀ t : Fin grid0.N, ((grid0.coords t) 0).val = t.val := by decide +kernel
theorem coord1 : ∀ t : Fin grid1.N, ((grid1.coords t) 0).val = t.val := by decide +kernel
theorem first_iff : ∀ t : Fin grid0.N, (isFirst (BitVec.ofNat 32 t.val) = 1#1) ↔ t.val = 0 := by decide +kernel

/-- The tables after point `j` are the columns after its block. -/
theorem reach0_col : ∀ (j : ℕ) (T : TV Ideal × TI Ideal), Reach0 (F := Ideal) Aq Ac (j + 1) T → ∀ p q l, colAt T p q l = colF Aq Ac p q l (j + 1) := by
  intro j
  induction j with
  | zero =>
    rintro T ⟨h, Q, B, T', -, hQ, hB, rfl⟩ p q l
    have hQ := isQ0_eq hQ
    have hB := isB0_blk hB
    subst hQ
    unfold fnext
    rw [coord0]
    rw [colAt_block Q Ac (show 0 < 13 by omega) hB]
    unfold start
    rw [if_pos ((first_iff ⟨0, h⟩).mpr rfl)]
    rfl
  | succ j ih =>
    rintro T ⟨h, Q, B, T', hT', hQ, hB, rfl⟩ p q l
    have hQ := isQ0_eq hQ
    have hB := isB0_blk hB
    subst hQ
    unfold fnext
    rw [coord0]
    rw [colAt_block Q Ac (show j + 1 < 13 from h) hB]
    unfold start
    rw [if_neg (fun e => by have := (first_iff ⟨j + 1, h⟩).mp e; simp at this)]
    rw [ih T' hT']
    rfl

/-- The chunks of class `p` before `n` with a column at lane `l`. -/
def inCls (p : Fin 4) (l : Fin 128) (n g : ℕ) : Prop := g % 4 = p.val ∧ g < n ∧ 128 * g + l.val < 100000

variable {Aq Ac}

theorem held_class (hb : ∀ q n, n < 100000 → neg < sc Aq Ac q n) (p : Fin 4) (q : Fin 1024) (l : Fin 128) {j : ℕ} (hj : j < 13) :
    ∀ (n u : ℕ) (h : n + u ≤ 16) (C : Col), Held neg (fun g => scz Aq Ac q (128 * g + l.val)) (inCls p l (64 * j + 4 * u)) C →
      Held neg (fun g => scz Aq Ac q (128 * g + l.val)) (inCls p l (64 * j + 4 * (u + n))) ((colP Aq Ac q l j (classFrom p n u h)).foldl cin C) := by
  intro n
  induction n with
  | zero => intro u h C hC; exact hC
  | succ n ih =>
    intro u h C hC
    have hp := p.isLt
    show Held _ _ _ ((colP Aq Ac q l j (classFrom p n (u + 1) _)).foldl cin (cin C (BitVec.ofNat 32 (64 * j + (p.val + 4 * u)), scz Aq Ac q (128 * (64 * j + (p.val + 4 * u)) + l.val))))
    rw [show u + (n + 1) = (u + 1) + n by omega]
    refine ih (u + 1) (by omega) _ ?_
    have ei : (BitVec.ofNat 32 (64 * j + (p.val + 4 * u))).toNat = 64 * j + (p.val + 4 * u) := by rw [BitVec.toNat_ofNat]; omega
    by_cases hl : 128 * (64 * j + (p.val + 4 * u)) + l.val < 100000
    · have := hC.insert (BitVec.ofNat 32 (64 * j + (p.val + 4 * u))) (by rw [ei]; unfold inCls; omega)
        (by rw [ei]; unfold scz; rw [if_pos hl]; exact hb q _ hl)
      rw [ei] at this
      refine this.congr fun g => ?_
      unfold inCls
      constructor <;> intro hg <;> omega
    · have e : scz Aq Ac q (128 * (64 * j + (p.val + 4 * u)) + l.val) = neg := by unfold scz; rw [if_neg hl]
      rw [e, cin_low hC]
      refine hC.congr fun g => ?_
      unfold inCls
      constructor <;> intro hg <;> omega

theorem held_col (hb : ∀ q n, n < 100000 → neg < sc Aq Ac q n) (p : Fin 4) (q : Fin 1024) (l : Fin 128) :
    ∀ j ≤ 13, Held neg (fun g => scz Aq Ac q (128 * g + l.val)) (inCls p l (64 * j)) (colF Aq Ac p q l j) := by
  intro j
  induction j with
  | zero =>
    intro _
    exact held_empty (fun g hg => by unfold inCls at hg; omega) _ _
  | succ j ih =>
    intro hj
    have := held_class hb p q l (show j < 13 by omega) 16 0 (by decide) _ (ih (by omega))
    exact this.congr fun g => by unfold inCls; constructor <;> intro hg <;> omega

end Cert.Kernel.Body

end
-- ==== Proof.Cands.lean ====
/-
  The fast call's candidates at a row: the ten best of every table collected, as a set of entries.
-/
module

public import proofs.«01_k».proof.Proof.FastHeld

@[expose] public section

noncomputable section

namespace Cert.Kernel.Body

open Idealize.ShloMosaic Idealize.ShloMosaic.TcCoe
open Cert.Kernel Cert.Kernel.Facts₀ Cert.Kernel.Facts Cert.Kernel.Ranks Cert.Kernel.Rows

open Cert.Kernel.Column

variable [Facts]

/-- A rank of a table as rows. -/
theorem cast_rank {α : Type} (x : S1x1x1024x128.Idx → α) (q : Fin 1024) (l : Fin 128) :
    shapeCast S1024x128 x shapeCasts_S1x1x1024x128_S1024x128 (ix2 q l) = x (ix4 0 0 q l) :=
  shapeCast_apply x _ _ _ (by
    rw [rowMajor_val2 _ 128 rfl, rowMajor_val4 _ (1024 * 128) (1024 * 128) 128 rfl rfl rfl]
    show 0 * _ + 0 * _ + q.val * 128 + l.val = q.val * 128 + l.val
    omega)

theorem rankV_apply (T : TV Ideal) (p : Fin 4) (r : Fin 3) (q : Fin 1024) (l : Fin 128) :
    (shapeCast S1024x128 (get (rVW p r) T) shapeCasts_S1x1x1024x128_S1024x128 (ix2 q l) : EReal) = T (ix4 p r q l) := by
  refine (cast_rank _ q l).trans ?_
  show T _ = T _
  congr 1
  funext d
  apply Fin.ext
  match d with
  | ⟨0, _⟩ => show p.val + 1 * 0 = p.val; omega
  | ⟨1, _⟩ => show r.val + 1 * 0 = r.val; omega
  | ⟨2, _⟩ => show 0 + 1 * q.val = q.val; omega
  | ⟨3, _⟩ => show 0 + 1 * l.val = l.val; omega

theorem rankI_apply (T : TI Ideal) (p : Fin 4) (r : Fin 2) (q : Fin 1024) (l : Fin 128) :
    (shapeCast S1024x128 (get (rIW p r) T) shapeCasts_S1x1x1024x128_S1024x128 (ix2 q l) : BitVec 32) = T (ix4 p r q l) := by
  refine (cast_rank _ q l).trans ?_
  show T _ = T _
  congr 1
  funext d
  apply Fin.ext
  match d with
  | ⟨0, _⟩ => show p.val + 1 * 0 = p.val; omega
  | ⟨1, _⟩ => show r.val + 1 * 0 = r.val; omega
  | ⟨2, _⟩ => show 0 + 1 * q.val = q.val; omega
  | ⟨3, _⟩ => show 0 + 1 * l.val = l.val; omega

variable (T : TV Ideal × TI Ideal) (q : Fin 1024)

/-- A table's values at a row, -/
def tvR (x : Fin 4 × Fin 2) (l : Fin 128) : EReal := T.1 (ix4 x.1 x.2.castSucc q l)
/-- its columns -/
def tgR (x : Fin 4 × Fin 2) (l : Fin 128) : BitVec 32 := T.2 (ix4 x.1 x.2 q l) * 128#32 + BitVec.ofNat 32 l.val
/-- and its entries. -/
def tb (x : Fin 4 × Fin 2) : Finset Ent := tab neg (tvR T q x) (tgR T q x)

/-- The ten best of one table put after the candidates collected. -/
def pick (x : Fin 4 × Fin 2) (s : ℕ) (cv : FVec Ideal S1024x128 .f32) (ci : IVec S1024x128 32) : FVec Ideal S1024x128 .f32 × IVec S1024x128 32 × FVec Ideal S1024x1 .f32 :=
  pulls 128 reduces_S1024x128_S1024 broadcasts_S1024x1_S1024x128 lane
    (addi (muli (shapeCast S1024x128 (get (rIW x.1 x.2) T.2) shapeCasts_S1x1x1024x128_S1024x128) (broadcast S1024x128 128#32)) lane) 10 s
    (shapeCast S1024x128 (get (rVW x.1 x.2.castSucc) T.1) shapeCasts_S1x1x1024x128_S1024x128) cv ci (mx 128 reduces_S1024x128_S1024 cv)

theorem cands_cons (x : Fin 4 × Fin 2) (L : List (Fin 4 × Fin 2)) (s : ℕ) (cv : FVec Ideal S1024x128 .f32) (ci : IVec S1024x128 32) :
    cands T (x :: L) s cv ci = cands T L (s + 10) (pick T x s cv ci).1 (pick T x s cv ci).2.1 := rfl

theorem pick_row (x : Fin 4 × Fin 2) (s : ℕ) (hs : s + 10 ≤ 128) (cv : FVec Ideal S1024x128 .f32) (ci : IVec S1024x128 32) :
    (row q (pick T x s cv ci).1, row q (pick T x s cv ci).2.1, (pick T x s cv ci).2.2 (ix2 q 0))
      = rpulls neg (tgR T q x) 10 s (tvR T q x) (row q cv) (row q ci) (mx 128 reduces_S1024x128_S1024 cv (ix2 q 0)) := by
  have eV : row q (shapeCast S1024x128 (get (rVW x.1 x.2.castSucc) T.1) shapeCasts_S1x1x1024x128_S1024x128) = tvR T q x :=
    funext fun l => rankV_apply T.1 x.1 x.2.castSucc q l
  have eG : row q (addi (muli (shapeCast S1024x128 (get (rIW x.1 x.2) T.2) shapeCasts_S1x1x1024x128_S1024x128) (broadcast S1024x128 128#32)) lane) = tgR T q x :=
    funext fun l => by
      show shapeCast S1024x128 (get (rIW x.1 x.2) T.2) shapeCasts_S1x1x1024x128_S1024x128 (ix2 q l) * 128#32 + lane (ix2 q l) = _
      rw [rankI_apply, lane_row]
      rfl
  rw [← eV, ← eG]
  exact pulls_row 128 reduces_S1024x128_S1024 broadcasts_S1024x1_S1024x128 q _ 10 s _ cv ci _ hs

theorem pick_tab (x : Fin 4 × Fin 2) (s : ℕ) (hs : s + 10 ≤ 128) (cv : FVec Ideal S1024x128 .f32) (ci : IVec S1024x128 32)
    (ok : RowOK neg (tvR T q x) (tgR T q x)) (okc : RowOK neg (row q cv) (row q ci)) (hd : Disjoint (tb T q x) (tab neg (row q cv) (row q ci)))
    (hz : ∀ l : Fin 128, s ≤ l.val → row q cv l = neg) :
    RowOK neg (row q (pick T x s cv ci).1) (row q (pick T x s cv ci).2.1) ∧
      tab neg (row q (pick T x s cv ci).1) (row q (pick T x s cv ci).2.1) = tab neg (row q cv) (row q ci) ∪ top 10 (tb T q x) ∧
      ∀ l : Fin 128, s + 10 ≤ l.val → row q (pick T x s cv ci).1 l = neg := by
  have h := rpulls_tab (z := neg) (by decide : 0 < 128) (tgR T q x) 10 s (tvR T q x) (row q cv) (row q ci)
    (mx 128 reduces_S1024x128_S1024 cv (ix2 q 0)) hs ok okc hd hz
  rw [← pick_row T q x s hs cv ci] at h
  exact h

/-- The candidates collected from tables without a common entry. -/
theorem cands_row (L : List (Fin 4 × Fin 2)) : ∀ (s : ℕ) (cv : FVec Ideal S1024x128 .f32) (ci : IVec S1024x128 32),
    s + 10 * L.length ≤ 128 → (∀ x ∈ L, RowOK neg (tvR T q x) (tgR T q x)) → L.Pairwise (fun x y => Disjoint (tb T q x) (tb T q y)) →
    RowOK neg (row q cv) (row q ci) → (∀ x ∈ L, Disjoint (tb T q x) (tab neg (row q cv) (row q ci))) →
    (∀ l : Fin 128, s ≤ l.val → row q cv l = neg) →
      RowOK neg (row q (cands T L s cv ci).1) (row q (cands T L s cv ci).2) ∧
      ∀ e, e ∈ tab neg (row q (cands T L s cv ci).1) (row q (cands T L s cv ci).2) ↔
        e ∈ tab neg (row q cv) (row q ci) ∨ ∃ x ∈ L, e ∈ top 10 (tb T q x) := by
  induction L with
  | nil => exact fun s cv ci _ _ _ okc _ _ => ⟨okc, fun e => ⟨Or.inl, fun h => h.elim id fun ⟨x, hx, _⟩ => absurd hx List.not_mem_nil⟩⟩
  | cons y L ih =>
    intro s cv ci hs hok hpw okc hd hz
    rw [List.length_cons] at hs
    obtain ⟨h1, h2, h3⟩ := pick_tab T q y s (by omega) cv ci (hok _ List.mem_cons_self) okc (hd _ List.mem_cons_self) hz
    rw [List.pairwise_cons] at hpw
    rw [cands_cons]
    generalize pick T y s cv ci = P at h1 h2 h3 ⊢
    obtain ⟨i1, i2⟩ := ih (s + 10) P.1 P.2.1 (by omega) (fun x hx => hok x (List.mem_cons_of_mem _ hx)) hpw.2 h1 (fun x hx => by
      rw [h2, Finset.disjoint_union_right]
      exact ⟨hd x (List.mem_cons_of_mem _ hx), (hpw.1 x hx).symm.mono_right (top_subset 10 _)⟩) h3
    refine ⟨i1, fun e => (i2 e).trans ?_⟩
    rw [h2, Finset.mem_union, or_assoc]
    rw [List.exists_mem_cons_iff]

/-- The tables at the row hold the best of the scores of their chunks. -/
def Good0 (Aq : S1024x128.Idx → EReal) (Ac : S100000x128.Idx → EReal) : Prop :=
  ∀ p l, Held neg (fun g => scz Aq Ac q (128 * g + l.val)) (inCls p l 832) (colAt T p q l)

variable {T q} {Aq : S1024x128.Idx → EReal} {Ac : S100000x128.Idx → EReal}

/-- An entry of a table is a column's. -/
theorem tab_from (H : Good0 T q Aq Ac) (x : Fin 4 × Fin 2) (l : Fin 128) (h : tvR T q x l ≠ neg) :
    ∃ g, inCls x.1 l 832 g ∧ (T.2 (ix4 x.1 x.2 q l)).toNat = g ∧ tvR T q x l = sc Aq Ac q (128 * g + l.val) ∧ (tgR T q x l).toNat = 128 * g + l.val := by
  have key : inCls x.1 l 832 (T.2 (ix4 x.1 x.2 q l)).toNat ∧ tvR T q x l = scz Aq Ac q (128 * (T.2 (ix4 x.1 x.2 q l)).toNat + l.val) := by
    obtain ⟨p, r⟩ := x
    match r, h with
    | 0, h => exact (H p l).h1.resolve_left h
    | 1, h => exact (H p l).h2.resolve_left h
  refine ⟨_, key.1, rfl, ?_, ?_⟩
  · rw [key.2, scz, if_pos key.1.2.2]
  · have := key.1.2.1
    have := l.isLt
    unfold tgR
    simp only [BitVec.toNat_add, BitVec.toNat_mul, BitVec.toNat_ofNat]
    omega

theorem tb_from (H : Good0 T q Aq Ac) (x : Fin 4 × Fin 2) {e : Ent} (h : e ∈ tb T q x) :
    ∃ g l, tvR T q x l ≠ neg ∧ inCls x.1 l 832 g ∧ (T.2 (ix4 x.1 x.2 q l)).toNat = g ∧ e = ent (sc Aq Ac q (128 * g + l.val)) (128 * g + l.val) := by
  obtain ⟨l, hl, he⟩ := (mem_tab neg).mp h
  obtain ⟨g, h1, h2, h3, h4⟩ := tab_from H x l hl
  exact ⟨g, l, hl, h1, h2, by rw [← he, h3, h4]⟩

theorem ok_tb (H : Good0 T q Aq Ac) (x : Fin 4 × Fin 2) : RowOK neg (tvR T q x) (tgR T q x) := by
  refine ⟨fun l => ?_, fun l l' hl h1 h2 => ?_, fun l hl => ?_⟩
  · obtain ⟨p, r⟩ := x
    match r with
    | 0 => exact (H p l).z3.trans ((H p l).le32.trans (H p l).le21)
    | 1 => exact (H p l).z3.trans (H p l).le32
  · obtain ⟨g, _, _, _, e⟩ := tab_from H x l hl
    obtain ⟨g', _, _, _, e'⟩ := tab_from H x l' (h1 ▸ hl)
    rw [h2, e'] at e
    exact Fin.ext (by have := l.isLt; have := l'.isLt; omega)
  · obtain ⟨g, h1, _, _, e⟩ := tab_from H x l hl
    have := h1.2.2
    omega

theorem disj_tb (H : Good0 T q Aq Ac) {x y : Fin 4 × Fin 2} (hne : x ≠ y) : Disjoint (tb T q x) (tb T q y) := by
  rw [Finset.disjoint_left]
  intro e hx hy
  obtain ⟨g, l, hv, hg, hi, he⟩ := tb_from H x hx
  obtain ⟨g', l', hv', hg', hi', he'⟩ := tb_from H y hy
  have hn := (ent_inj.mp (he.symm.trans he')).2
  have hll : l = l' := Fin.ext (by have := l.isLt; have := l'.isLt; omega)
  subst hll
  have hgg : g = g' := by omega
  subst hgg
  obtain ⟨p, r⟩ := x
  obtain ⟨p', r'⟩ := y
  have hpp : p = p' := Fin.ext (hg.1.symm.trans hg'.1)
  subst hpp
  have N := (H p l).ne
  match r, r' with
  | 0, 0 => exact hne rfl
  | 1, 1 => exact hne rfl
  | 0, 1 => exact N hv hv' (hi.trans hi'.symm)
  | 1, 0 => exact N hv' hv (hi'.trans hi.symm)

/-- All the candidates' entries. -/
theorem cand_row (H : Good0 T q Aq Ac) : RowOK neg (row q (cand T).1) (row q (cand T).2) ∧
    ∀ e, e ∈ tab neg (row q (cand T).1) (row q (cand T).2) ↔ ∃ x, e ∈ top 10 (tb T q x) := by
  have hempty : tab neg (row q (broadcast S1024x128 (negW (F := Ideal)))) (row q (broadcast S1024x128 (0#32 : BitVec 32))) = ∅ := by
    rw [Finset.eq_empty_iff_forall_notMem]
    intro e he
    obtain ⟨l, hl, _⟩ := (mem_tab neg).mp he
    exact hl rfl
  obtain ⟨h1, h2⟩ := cands_row T q tabs 0 (broadcast S1024x128 negW) (broadcast S1024x128 0#32) (by decide) (fun x _ => ok_tb H x)
    ((by decide : tabs.Pairwise (· ≠ ·)).imp fun h => disj_tb H h)
    ⟨fun _ => le_refl _, fun _ _ h => absurd rfl h, fun _ h => absurd rfl h⟩ (fun x _ => by rw [hempty]; exact Finset.disjoint_empty_right _) (fun _ _ => rfl)
  refine ⟨h1, fun e => (h2 e).trans ?_⟩
  rw [hempty, or_iff_right (Finset.notMem_empty e)]
  exact exists_congr fun x => and_iff_right ((by decide : ∀ x : Fin 4 × Fin 2, x ∈ tabs) x)

end Cert.Kernel.Body

end
-- ==== Proof.FastOut.lean ====
/-
  What the fast call writes out at a row: where no flag stands, the first ten of all scores in order.
-/
module

public import proofs.«01_k».proof.Proof.Cands

@[expose] public section

noncomputable section

namespace Cert.Kernel.Body

open Idealize.ShloMosaic Idealize.ShloMosaic.TcCoe
open Cert.Kernel Cert.Kernel.Facts₀ Cert.Kernel.Facts Cert.Kernel.Ranks Cert.Kernel.Rows

open Cert.Kernel.Column

variable [Facts]

/-- The entries of all columns at row `q`. -/
def allE (Aq : S1024x128.Idx → EReal) (Ac : S100000x128.Idx → EReal) (q : Fin 1024) : Finset Ent :=
  (Finset.range 100000).image fun n => ent (sc Aq Ac q n) n

theorem mem_allE {Aq : S1024x128.Idx → EReal} {Ac : S100000x128.Idx → EReal} {q : Fin 1024} {e : Ent} :
    e ∈ allE Aq Ac q ↔ ∃ n, n < 100000 ∧ ent (sc Aq Ac q n) n = e := by
  unfold allE
  rw [Finset.mem_image]
  exact exists_congr fun n => and_congr_left' Finset.mem_range

/-- Ten values and indices list the first ten entries of `A` in order. -/
def Lists (A : Finset Ent) (V : Fin 10 → EReal) (I : Fin 10 → BitVec 32) : Prop :=
  ∃ (C : Finset Ent) (_ : Holds 10 C A) (hne : ∀ i < 10, (drop i C).Nonempty), ∀ i, V i = vl (nth hne i) ∧ (I i).toNat = ix (nth hne i)

theorem hv_of_nonempty {z : EReal} {A : Finset Ent} (h : A.Nonempty) : hv z A = vl (A.min' h) := dif_pos h

/-- A set whose first ten come before everything it lacks. -/
theorem holds_of_last {A C : Finset Ent} (hC : C ⊆ A) (hne : ∀ i < 10, (drop i C).Nonempty)
    (h : ∀ x ∈ A, x ∉ C → 10 ≤ (C.filter (· < x)).card ∨ vl x < vl (nth hne 9)) : Holds 10 C A := by
  refine ⟨hC, fun x hx hn => (h x hx hn).elim id fun hlt => ?_⟩
  have hinj : Function.Injective (nth hne) := by
    intro i j hij
    rcases lt_trichotomy i j with h | h | h
    · exact absurd hij (ne_of_lt (nth_lt hne h))
    · exact h
    · exact absurd hij.symm (ne_of_lt (nth_lt hne h))
  have hsub : (Finset.univ.image (nth hne)) ⊆ C.filter (· < x) := by
    intro y hy
    obtain ⟨i, -, rfl⟩ := Finset.mem_image.mp hy
    refine Finset.mem_filter.mpr ⟨drop_subset _ _ (nth_mem hne i), ?_⟩
    have h9 : nth hne i ≤ nth hne 9 := by
      rcases (show i ≤ 9 from Fin.le_last i).eq_or_lt with h | h
      · rw [h]
      · exact (nth_lt hne h).le
    refine lt_of_le_of_lt h9 ?_
    rw [← ent_vl_ix x, ← ent_vl_ix (nth hne 9)]
    exact ent_lt.mpr (Or.inl hlt)
  have := Finset.card_le_card hsub
  rwa [Finset.card_image_of_injective _ hinj, Finset.card_univ, Fintype.card_fin] at this

variable {T : TV Ideal × TI Ideal} {q : Fin 1024} {Aq : S1024x128.Idx → EReal} {Ac : S100000x128.Idx → EReal}

/-- The ten best of the candidates in order, and the tenth value. -/
theorem best_row (ok : RowOK neg (row q (cand T).1) (row q (cand T).2)) :
    (∀ (l : Fin 128) (i : ℕ), i < 10 → l.val = i → row q (best T).1 l = hv neg (drop i (tab neg (row q (cand T).1) (row q (cand T).2))) ∧
      ∀ h : (drop i (tab neg (row q (cand T).1) (row q (cand T).2))).Nonempty, (row q (best T).2.1 l).toNat = ix ((drop i (tab neg (row q (cand T).1) (row q (cand T).2))).min' h)) ∧
    (best T).2.2 (ix2 q 0) = hv neg (drop 9 (tab neg (row q (cand T).1) (row q (cand T).2))) := by
  have hP := pulls_row 128 reduces_S1024x128_S1024 broadcasts_S1024x1_S1024x128 q (cand T).2 10 0 (cand T).1
    (broadcast S1024x128 (Scalar.ofBits .f32 0x00000000#32)) (broadcast S1024x128 0#32) (mx 128 reduces_S1024x128_S1024 (cand T).1) (by omega)
  exact pulled 128 q (P := best T) (by decide) hP ok

theorem outV_apply (T : TV Ideal × TI Ideal) (q : Fin 1024) (i : Fin 10) : (outV T (ix2 q i) : EReal) = row q (best T).1 ⟨i.val, by omega⟩ := by
  refine congrArg (best T).1 (funext fun a => ?_)
  match a with
  | ⟨0, _⟩ => exact Fin.ext (show 0 + q.val = q.val by omega)
  | ⟨1, _⟩ => exact Fin.ext (show 0 + i.val = i.val by omega)

theorem outI_apply (T : TV Ideal × TI Ideal) (q : Fin 1024) (i : Fin 10) : (outI T (ix2 q i) : BitVec 32) = row q (best T).2.1 ⟨i.val, by omega⟩ := by
  refine congrArg (best T).2.1 (funext fun a => ?_)
  match a with
  | ⟨0, _⟩ => exact Fin.ext (show 0 + q.val = q.val by omega)
  | ⟨1, _⟩ => exact Fin.ext (show 0 + i.val = i.val by omega)

/-- The word of four flags. -/
theorem four_flags : ∀ a b c d : Bool,
    ((((0#32 ||| (BitVec.ofBool a).setWidth 32) ||| (BitVec.ofBool b).setWidth 32) ||| (BitVec.ofBool c).setWidth 32) ||| (BitVec.ofBool d).setWidth 32).toInt ≤ 0 →
      a = false ∧ b = false ∧ c = false ∧ d = false := by decide

/-- No flag: every third value is below the tenth candidate. -/
theorem below_of_flag (l : Fin 128) (h : (outF T (ix2 q l) : BitVec 32).toInt ≤ 0) (p : Fin 4) : (T.1 (ix4 p 2 q l) : EReal) < (best T).2.2 (ix2 q 0) := by
  have e : ∀ p : Fin 4, (extui 32 (cmpf .oge (shapeCast S1024x128 (get (rVW p 2) T.1) shapeCasts_S1x1x1024x128_S1024x128)
      (broadcastTo S1024x128 (best T).2.2 broadcasts_S1024x1_S1024x128)) natLt_1_32) (ix2 q l)
        = (BitVec.ofBool (decide ((best T).2.2 (ix2 q 0) ≤ (T.1 (ix4 p 2 q l) : EReal)))).setWidth 32 := by
    intro p
    generalize best T = P
    have e1 := rankV_apply T.1 p 2 q l
    have e2 := spread broadcasts_S1024x1_S1024x128 P.2.2 q l
    show (FloatOps.cmpf (F := Ideal) (φ := .f32) .oge (shapeCast S1024x128 (get (rVW p 2) T.1) shapeCasts_S1x1x1024x128_S1024x128 (ix2 q l))
      (broadcastTo S1024x128 P.2.2 broadcasts_S1024x1_S1024x128 (ix2 q l))).setWidth 32 = _
    rw [e1, e2]
    rfl
  have h' := four_flags (decide ((best T).2.2 (ix2 q 0) ≤ (T.1 (ix4 0 2 q l) : EReal))) (decide ((best T).2.2 (ix2 q 0) ≤ (T.1 (ix4 1 2 q l) : EReal)))
    (decide ((best T).2.2 (ix2 q 0) ≤ (T.1 (ix4 2 2 q l) : EReal))) (decide ((best T).2.2 (ix2 q 0) ≤ (T.1 (ix4 3 2 q l) : EReal))) (by
      rw [← e 0, ← e 1, ← e 2, ← e 3]
      exact h)
  obtain ⟨h0, h1, h2, h3⟩ := h'
  rw [← not_le]
  match p with
  | 0 => exact of_decide_eq_false h0
  | 1 => exact of_decide_eq_false h1
  | 2 => exact of_decide_eq_false h2
  | 3 => exact of_decide_eq_false h3

/-- Where no flag stands the fast call lists the first ten of all. -/
theorem fast_lists (H : Good0 T q Aq Ac) (hf : ∀ l, (outF T (ix2 q l) : BitVec 32).toInt ≤ 0) :
    Lists (allE Aq Ac q) (fun i => outV T (ix2 q i)) (fun i => outI T (ix2 q i)) := by
  obtain ⟨ok, hC⟩ := cand_row H
  obtain ⟨hl, h9⟩ := best_row ok
  have hsub : ∀ e, e ∈ tab neg (row q (cand T).1) (row q (cand T).2) → e ∈ allE Aq Ac q := by
    intro e he
    obtain ⟨x, hx⟩ := (hC e).mp he
    obtain ⟨g, l, _, hg, _, rfl⟩ := tb_from H x (top_subset 10 (tb T q x) hx)
    exact mem_allE.mpr ⟨_, hg.2.2, rfl⟩
  generalize tab neg (row q (cand T).1) (row q (cand T).2) = C at hC hl h9 hsub
  have hn9 : (drop 9 C).Nonempty := by
    by_contra hn
    have e : hv neg (drop 9 C) = neg := dif_neg hn
    have := below_of_flag 0 (hf 0) 0
    rw [h9, e] at this
    exact absurd (H 0 0).z3 (not_le.mpr this)
  have hne : ∀ i < 10, (drop i C).Nonempty := fun i hi => hn9.mono (drop_anti (by omega) C)
  refine ⟨C, holds_of_last hsub hne ?_, hne, fun i => ?_⟩
  · intro x hx hnx
    obtain ⟨n, hn, rfl⟩ := mem_allE.mp hx
    have hin : ∀ y, ent (sc Aq Ac q n) n ∈ tb T q y → 10 ≤ (C.filter (· < ent (sc Aq Ac q n) n)).card := by
      intro y hy
      have hnt : ent (sc Aq Ac q n) n ∉ top 10 (tb T q y) := fun h => hnx ((hC _).mpr ⟨y, h⟩)
      exact ((Holds.top 10 (tb T q y)).2 _ hy hnt).trans (Finset.card_le_card (Finset.filter_subset_filter _ fun e he => (hC e).mpr ⟨y, he⟩))
    have hp : n / 128 % 4 < 4 := by omega
    have hlt : n % 128 < 128 := by omega
    have hall := (H ⟨n / 128 % 4, hp⟩ ⟨n % 128, hlt⟩).all (n / 128) ⟨rfl, by omega, by show 128 * (n / 128) + n % 128 < 100000; omega⟩
    have en : 128 * (n / 128) + n % 128 = n := by omega
    have es : scz Aq Ac q n = sc Aq Ac q n := if_pos hn
    have hmem : ∀ r : Fin 2, tvR T q (⟨n / 128 % 4, hp⟩, r) ⟨n % 128, hlt⟩ ≠ neg → (T.2 (ix4 ⟨n / 128 % 4, hp⟩ r q ⟨n % 128, hlt⟩)).toNat = n / 128 →
        ent (sc Aq Ac q n) n ∈ tb T q (⟨n / 128 % 4, hp⟩, r) := by
      intro r hv hi
      obtain ⟨g, _, h2, h3, h4⟩ := tab_from H (⟨n / 128 % 4, hp⟩, r) ⟨n % 128, hlt⟩ hv
      have eg : g = n / 128 := h2.symm.trans hi
      subst eg
      dsimp only at h3 h4
      rw [en] at h3 h4
      exact (mem_tab neg).mpr ⟨_, hv, by rw [h3, h4]⟩
    rcases hall with ⟨hv, hi⟩ | ⟨hv, hi⟩ | h3
    · exact Or.inl (hin _ (hmem 0 hv hi))
    · exact Or.inl (hin _ (hmem 1 hv hi))
    · dsimp only at h3
      rw [en, es] at h3
      refine Or.inr (lt_of_le_of_lt h3 ?_)
      refine lt_of_lt_of_eq (below_of_flag ⟨n % 128, hlt⟩ (hf _) ⟨n / 128 % 4, hp⟩) ?_
      rw [h9, hv_of_nonempty hn9]
      rfl
  · obtain ⟨h1, h2⟩ := hl ⟨i.val, by omega⟩ i.val i.isLt rfl
    dsimp only
    rw [outV_apply, outI_apply, h1, hv_of_nonempty (hne i.val i.isLt)]
    exact ⟨rfl, h2 _⟩

end Cert.Kernel.Body

end
-- ==== Proof.TopK.lean ====
/-
  The reference's selection: the k greatest of a row in order, the earlier of equal values first.
-/
module

public import proofs.«01_k».proof.Proof.FastOut
public import Idealize.ShloMosaic.Lib.Pointwise.Tactic
public import Idealize.ShloMosaic.Lib.SortFacts
public import Idealize.ShloMosaic.Lib.SortPrefix

@[expose] public section

noncomputable section

namespace Cert.Kernel.Body

open Idealize.ShloMosaic Idealize.ShloMosaic.TcCoe
open Cert.Kernel Cert.Kernel.Facts₀ Cert.Kernel.Facts Cert.Kernel.Ranks Cert.Kernel.Rows

/-- A stable sort of a list in ascending order may as well compare positions where its elements tie. -/
theorem stableSort_tie {n : ℕ} (B R : Fin n → Fin n → Bool) (h : ∀ a b, a < b → B b a = R b a) :
    ∀ l : List (Fin n), l.Pairwise (· < ·) → stableSort B l = stableSort R l
  | [], _ => rfl
  | a :: l, hl => by
    rw [List.pairwise_cons] at hl
    unfold stableSort
    rw [stableSort_tie B R h l hl.2]
    exact insertBefore_congr B R a _ fun b hb => h a b (hl.1 b ((perm_stableSort R l).mem_iff.mp hb))

theorem sortedFrom_tie {n : ℕ} (B R : Fin n → Fin n → Bool) (h : ∀ a b, a < b → B b a = R b a) (k : Fin n) : sortedFrom B k = sortedFrom R k := by
  have e : sortPositions n B = sortPositions n R := stableSort_tie B R h _ (List.pairwise_lt_finRange n)
  unfold sortedFrom
  rw [List.get_of_eq e]
  rfl

/-- A greater value first, and of equal values the earlier. -/
def byKey {n : ℕ} (key : Fin n → EReal) (k k' : Fin n) : Bool := decide (key k' < key k) || (decide (key k = key k') && decide (k < k'))

theorem byKey_order {n : ℕ} (key : Fin n → EReal) : StrictTotalBefore (byKey key) :=
  StrictTotalBefore.of_key_then_position (fun a b : EReal => decide (b < a)) key (by simp)
    (by intro a b c h h'; simp only [decide_eq_true_eq] at *; exact lt_trans h' h)
    (by intro a b; simp only [decide_eq_true_eq]; rcases lt_trichotomy a b with h | h | h <;> tauto)

theorem sortedFrom_gt {n : ℕ} (key : Fin n → EReal) (k : Fin n) :
    sortedFrom (fun a b => (FloatOps.cmpfTotal (F := Ideal) (φ := .f32) .gt (key a) (key b) : BitVec 1) == 1#1) k = sortedFrom (byKey key) k := by
  refine sortedFrom_tie _ _ (fun a b h => ?_) k
  show (BitVec.ofBool (decide (key a < key b)) == 1#1) = _
  unfold byKey
  rw [decide_eq_false (not_lt.mpr h.le), Bool.and_false, Bool.or_false]
  by_cases hk : key a < key b <;> simp [hk]

theorem byKey_ent {n : ℕ} (key : Fin n → EReal) (k k' : Fin n) : byKey key k k' = true ↔ ent (key k) k.val < ent (key k') k'.val := by
  rw [ent_lt]
  unfold byKey
  simp only [Bool.or_eq_true, Bool.and_eq_true, decide_eq_true_eq, Fin.lt_def]

/-- Ten values and indices that list a row's first ten entries are those that the sort puts first. -/
theorem lists_sorted {Aq : S1024x128.Idx → EReal} {Ac : S100000x128.Idx → EReal} {q : Fin 1024} {V : Fin 10 → EReal} {I : Fin 10 → BitVec 32}
    (h : Lists (allE Aq Ac q) V I) (i : Fin 10) :
    V i = sc Aq Ac q (sortedFrom (byKey fun n : Fin 100000 => sc Aq Ac q n) (i.castLE (by decide)))
      ∧ I i = BitVec.ofNat 32 (sortedFrom (byKey fun n : Fin 100000 => sc Aq Ac q n) (i.castLE (by decide))).val := by
  obtain ⟨C, hC, hne, hVI⟩ := h
  have hm : ∀ i, ∃ n : Fin 100000, ent (sc Aq Ac q n) n = nth hne i := fun i => by
    obtain ⟨n, hn, e⟩ := mem_allE.mp (hC.1 (drop_subset _ _ (nth_mem hne i)))
    exact ⟨⟨n, hn⟩, e⟩
  choose σ hσ using hm
  have hs : sortedFrom (byKey fun n : Fin 100000 => sc Aq Ac q n) (i.castLE (by decide)) = σ i := by
    refine StrictTotalBefore.sortedFrom_eq_of_prefix (byKey_order _) (by decide) σ ?_ ?_ ?_ i
    · intro a b hab
      have e : nth hne a = nth hne b := by rw [← hσ a, ← hσ b, hab]
      rcases lt_trichotomy a b with h | h | h
      · exact absurd e (ne_of_lt (nth_lt hne h))
      · exact h
      · exact absurd e.symm (ne_of_lt (nth_lt hne h))
    · intro a b hab
      rw [Bool.eq_false_iff]
      intro hb
      have := (byKey_ent _ _ _).mp hb
      rw [hσ, hσ] at this
      exact lt_asymm this (nth_lt hne hab)
    · intro a p hp
      rw [Bool.eq_false_iff]
      intro hb
      have hlt := (byKey_ent _ _ _).mp hb
      rw [hσ] at hlt
      refine lt_asymm hlt (nth_lt_of_ne hne hC (mem_allE.mpr ⟨p, p.isLt, rfl⟩) (fun j hj => hp j ?_) a)
      rw [← hσ] at hj
      exact Fin.ext (ent_inj.mp hj).2
  rw [hs]
  refine ⟨(hVI i).1.trans ?_, BitVec.eq_of_toNat_eq ((hVI i).2.trans ?_)⟩
  · rw [← hσ i, vl_ent]
  · rw [← hσ i, ix_ent, BitVec.toNat_ofNat, Nat.mod_eq_of_lt (lt_trans (σ i).isLt (by norm_num))]

/-- The selection at an output. -/
theorem topK_apply (x : (⟨2, ![1024, 100000]⟩ : Shape).Idx → EReal) (h : (⟨2, ![1024, 100000]⟩ : Shape).Slices (fun _ => 0) S1024x10) (q : Fin 1024) (i : Fin 10) :
    (Host.topK S1024x10 1 (FloatOps.cmpfTotal (F := Ideal) (φ := .f32) .gt) x h).1 (ix2 q i)
        = x (ix2 q (sortedFrom (byKey fun n : Fin 100000 => x (ix2 q n)) (i.castLE (by decide))))
      ∧ (Host.topK S1024x10 1 (FloatOps.cmpfTotal (F := Ideal) (φ := .f32) .gt) x h).2 (ix2 q i)
        = BitVec.ofNat 32 (sortedFrom (byKey fun n : Fin 100000 => x (ix2 q n)) (i.castLE (by decide))).val := by
  have hal : ∀ (k k' : Fin 100000), Shape.Idx.along (s := ⟨2, ![1024, 100000]⟩) (ix2 q k) 1 k' = ix2 q k' := fun k k' => by
    funext a
    fin_cases a <;> rfl
  have hJ : (fun a => ⟨0 + ((ix2 q i : S1024x10.Idx) (a.cast h.1.symm)).val, Nat.lt_of_lt_of_le (Nat.add_lt_add_left (Fin.isLt _) _) (h.2 a)⟩ : (⟨2, ![1024, 100000]⟩ : Shape).Idx)
      = ix2 q (i.castLE (by decide)) := by
    funext a
    fin_cases a <;> exact Fin.ext (Nat.zero_add _)
  have hB : ∀ i' : Fin 10, sortedFrom (fun k k' : Fin 100000 =>
      (FloatOps.cmpfTotal (F := Ideal) (φ := .f32) .gt (x (Shape.Idx.along (s := ⟨2, ![1024, 100000]⟩) (ix2 q (i'.castLE (by decide))) 1 k))
        (x (Shape.Idx.along (s := ⟨2, ![1024, 100000]⟩) (ix2 q (i'.castLE (by decide))) 1 k')) : BitVec 1) == 1#1) (i'.castLE (by decide))
      = sortedFrom (byKey fun n : Fin 100000 => x (ix2 q n)) (i'.castLE (by decide)) := fun i' => by
    refine Eq.trans ?_ (sortedFrom_gt (fun n : Fin 100000 => x (ix2 q n)) _)
    refine congrArg (fun B => sortedFrom B (i'.castLE (by decide))) ?_
    funext k k'
    rw [hal, hal]
  have hio : (fun j : (⟨2, ![1024, 100000]⟩ : Shape).Idx => if hd : 1 < (⟨2, ![1024, 100000]⟩ : Shape).rank then iotaInDim (⟨2, ![1024, 100000]⟩ : Shape) 32 ⟨1, hd⟩ j else 0#32)
      = fun j => BitVec.ofNat 32 (j 1).val := by
    funext j
    rw [dif_pos (by decide)]
    rfl
  constructor
  · simp only [Host.topK, extractStridedSlice, hJ]
    unfold Host.sort2
    rw [dif_pos (show 1 < (⟨2, ![1024, 100000]⟩ : Shape).rank by decide)]
    exact (congrArg x (hal _ _)).trans (congrArg (fun k => x (ix2 q k)) (hB i))
  · simp only [Host.topK, extractStridedSlice, hJ]
    unfold Host.sort2
    rw [dif_pos (show 1 < (⟨2, ![1024, 100000]⟩ : Shape).rank by decide)]
    exact (congrFun hio _).trans ((congrArg (fun j : (⟨2, ![1024, 100000]⟩ : Shape).Idx => BitVec.ofNat 32 (j 1).val) (hal _ _)).trans
      (congrArg (fun k : Fin 100000 => BitVec.ofNat 32 k.val) (hB i)))

end Cert.Kernel.Body

end
-- ==== Proof.RefTop.lean ====
/-
  The reference's results: at each row the first ten entries, in order, of the same scores.
-/
module

public import proofs.«01_k».proof.Proof.TopK
public import proofs.«01_k».proof.Proof.Gen.ReferenceIdeal
public import Idealize.ShloMosaic.Lib.Pointwise.Tactic
public import Idealize.ShloMosaic.Lib.Pointwise.Reshape
public import Idealize.ShloMosaic.Lib.Pointwise.Reduce

@[expose] public section

noncomputable section

namespace Cert.ReferenceIdeal.Body

open Idealize.ShloMosaic Idealize.ShloMosaic.TcCoe
open Cert.ReferenceIdeal Cert.ReferenceIdeal.Facts₀ Cert.ReferenceIdeal.Facts
open Cert.Kernel.Body (sc Lists allE lists_sorted topK_apply)

variable [Facts]

/-- The reference's scores. -/
def scores {F : FTy → Type} [FloatOps F] (Aq : (⟨S1024x128, .f32⟩ : BufTy).Contents (Elt F)) (Ac : (⟨S100000x128, .f32⟩ : BufTy).Contents (Elt F)) :
    (⟨S1024x100000, .f32⟩ : BufTy).Contents (Elt F) :=
  Host.dotGeneral dot_S1024x128_S128x100000_S1024x100000_1_0_0_1_n_n none Aq (transpose S128x100000 [1, 0] Ac transposes_S100000x128_S128x100000_1_0)

theorem scores_apply (Aq : (⟨S1024x128, .f32⟩ : BufTy).Contents (Elt Ideal)) (Ac : (⟨S100000x128, .f32⟩ : BufTy).Contents (Elt Ideal)) (q : Fin 1024) (n : Fin 100000) :
    scores Aq Ac (ix2 q n) = sc Aq Ac q n := by
  unfold scores sc
  rw [dif_pos n.isLt]
  simp only [pointwise]
  refine (Ideal.matmul_plain_apply (φ₁ := .f32) (φ₂ := .f32) none Aq _ (fun _ => (0 : EReal)) q n).trans ((zero_add _).trans (Finset.sum_congr rfl fun k _ => ?_))
  have ht : (transpose S128x100000 [1, 0] Ac transposes_S100000x128_S128x100000_1_0 : (⟨S128x100000, .f32⟩ : BufTy).Contents (Elt Ideal)) (ix2 k n) = Ac (ix2 n k) := by
    simp only [pointwise]
  exact congrArg (fun z : EReal => Aq (ix2 q k) * z) ht

/-- The reference's results, -/
def topV {F : FTy → Type} [FloatOps F] (Aq : (⟨S1024x128, .f32⟩ : BufTy).Contents (Elt F)) (Ac : (⟨S100000x128, .f32⟩ : BufTy).Contents (Elt F)) :
    (⟨S1024x10, .f32⟩ : BufTy).Contents (Elt F) := (Host.topK S1024x10 1 (FloatOps.cmpfTotal .gt) (scores Aq Ac) sliceFits_S1024x100000_S1024x10).1
def topI {F : FTy → Type} [FloatOps F] (Aq : (⟨S1024x128, .f32⟩ : BufTy).Contents (Elt F)) (Ac : (⟨S100000x128, .f32⟩ : BufTy).Contents (Elt F)) :
    (⟨S1024x10, .i32⟩ : BufTy).Contents (Elt F) := (Host.topK S1024x10 1 (FloatOps.cmpfTotal .gt) (scores Aq Ac) sliceFits_S1024x100000_S1024x10).2

theorem scores_row (Aq : (⟨S1024x128, .f32⟩ : BufTy).Contents (Elt Ideal)) (Ac : (⟨S100000x128, .f32⟩ : BufTy).Contents (Elt Ideal)) (q : Fin 1024) :
    (fun n : Fin 100000 => scores Aq Ac (ix2 q n)) = fun n : Fin 100000 => sc Aq Ac q n := funext fun n => scores_apply Aq Ac q n

/-- which equal any values that every row's first ten entries have, -/
theorem topV_eq (Aq : (⟨S1024x128, .f32⟩ : BufTy).Contents (Elt Ideal)) (Ac : (⟨S100000x128, .f32⟩ : BufTy).Contents (Elt Ideal))
    (V : (⟨S1024x10, .f32⟩ : BufTy).Contents (Elt Ideal)) (h : ∀ q, ∃ I, Lists (allE Aq Ac q) (fun i => V (ix2 q i)) I) : V = topV Aq Ac := by
  funext j
  obtain ⟨q, i, rfl⟩ : ∃ q i, j = ix2 q i := ⟨j 0, j 1, by funext a; fin_cases a <;> rfl⟩
  obtain ⟨I, h⟩ := h q
  refine ((lists_sorted h i).1).trans (Eq.symm (((topK_apply (scores Aq Ac) sliceFits_S1024x100000_S1024x10 q i).1).trans ?_))
  rw [scores_row]
  exact scores_apply Aq Ac q _

/-- and any indices. -/
theorem topI_eq (Aq : (⟨S1024x128, .f32⟩ : BufTy).Contents (Elt Ideal)) (Ac : (⟨S100000x128, .f32⟩ : BufTy).Contents (Elt Ideal))
    (I : (⟨S1024x10, .i32⟩ : BufTy).Contents (Elt Ideal)) (h : ∀ q, ∃ V, Lists (allE Aq Ac q) V (fun i => I (ix2 q i))) : I = topI Aq Ac := by
  funext j
  obtain ⟨q, i, rfl⟩ : ∃ q i, j = ix2 q i := ⟨j 0, j 1, by funext a; fin_cases a <;> rfl⟩
  obtain ⟨V, h⟩ := h q
  refine ((lists_sorted h i).2).trans (Eq.symm (((topK_apply (scores Aq Ac) sliceFits_S1024x100000_S1024x10 q i).2).trans ?_))
  rw [scores_row]

end Cert.ReferenceIdeal.Body

end
-- ==== Proof.Naive.lean ====
/-
  The naive call's carries after every point: the first ten of all scores met so far, in order.
-/
module

public import proofs.«01_k».proof.Proof.FastOut

@[expose] public section

noncomputable section

namespace Cert.Kernel.Body

open Idealize.ShloMosaic Idealize.ShloMosaic.TcCoe
open Cert.Kernel Cert.Kernel.Facts₀ Cert.Kernel.Facts Cert.Kernel.Ranks Cert.Kernel.Rows

variable [Facts]

section Join

variable {z : EReal} {u v : ℕ}

/-- Two rows without a common entry side by side. -/
theorem join_rows {xv : Fin u → EReal} {xg : Fin u → BitVec 32} {yv : Fin v → EReal} {yg : Fin v → BitVec 32}
    (okx : RowOK z xv xg) (oky : RowOK z yv yg) (hd : Disjoint (tab z xv xg) (tab z yv yg)) :
    RowOK z (Fin.addCases xv yv) (Fin.addCases xg yg : Fin (u + v) → BitVec 32) ∧
      tab z (Fin.addCases xv yv) (Fin.addCases xg yg : Fin (u + v) → BitVec 32) = tab z xv xg ∪ tab z yv yg := by
  rw [Finset.disjoint_left] at hd
  have hxy : ∀ (i : Fin u) (k : Fin v), xv i ≠ z → xv i = yv k → xg i = yg k → False := fun i k hi h1 h2 =>
    hd ((mem_tab z).mpr ⟨i, hi, rfl⟩) ((mem_tab z).mpr ⟨k, h1 ▸ hi, by rw [h1, h2]⟩)
  refine ⟨⟨fun l => ?_, fun l l' => ?_, fun l => ?_⟩, ?_⟩
  · induction l using Fin.addCases with
    | left i => rw [Fin.addCases_left]; exact okx.ge i
    | right i => rw [Fin.addCases_right]; exact oky.ge i
  · induction l using Fin.addCases with
    | left i =>
      induction l' using Fin.addCases with
      | left k => simp only [Fin.addCases_left]; exact fun h h1 h2 => congrArg _ (okx.inj i k h h1 h2)
      | right k => simp only [Fin.addCases_left, Fin.addCases_right]; exact fun h h1 h2 => (hxy i k h h1 h2).elim
    | right i =>
      induction l' using Fin.addCases with
      | left k => simp only [Fin.addCases_left, Fin.addCases_right]; exact fun h h1 h2 => (hxy k i (h1 ▸ h) h1.symm h2.symm).elim
      | right k => simp only [Fin.addCases_right]; exact fun h h1 h2 => congrArg _ (oky.inj i k h h1 h2)
  · induction l using Fin.addCases with
    | left i => simp only [Fin.addCases_left]; exact okx.small i
    | right i => simp only [Fin.addCases_right]; exact oky.small i
  · ext e
    rw [Finset.mem_union, mem_tab, mem_tab, mem_tab]
    constructor
    · rintro ⟨l, hl, he⟩
      induction l using Fin.addCases with
      | left i => rw [Fin.addCases_left] at hl he; rw [Fin.addCases_left] at he; exact Or.inl ⟨i, hl, he⟩
      | right i => rw [Fin.addCases_right] at hl he; rw [Fin.addCases_right] at he; exact Or.inr ⟨i, hl, he⟩
    · rintro (⟨i, hl, he⟩ | ⟨i, hl, he⟩)
      · exact ⟨Fin.castAdd v i, by rw [Fin.addCases_left]; exact hl, by rw [Fin.addCases_left, Fin.addCases_left]; exact he⟩
      · exact ⟨Fin.natAdd u i, by rw [Fin.addCases_right]; exact hl, by rw [Fin.addCases_right, Fin.addCases_right]; exact he⟩

end Join

theorem cat_row {α : Type} (x y : S1024x128.Idx → α) (q : Fin 1024) : row q (cat x y) = (Fin.addCases (row q x) (row q y) : Fin (128 + 128) → α) := by
  funext l
  have hl : l.val < 256 := l.isLt
  induction l using Fin.addCases (m := 128) (n := 128) with
  | left i =>
    rw [Fin.addCases_left]
    exact concatenate_pair_apply_left (t := S1024x256) (s₁ := S1024x128) (s₂ := S1024x128) 1 x y concatenates_S1024x128_S1024x128_S1024x256_d1 (ix2 q (Fin.castAdd 128 i)) rfl (ix2 q i) fun b =>
      match b with
      | ⟨0, _⟩ => rfl
      | ⟨1, _⟩ => rfl
  | right i =>
    rw [Fin.addCases_right]
    exact concatenate_pair_apply_right (t := S1024x256) (s₁ := S1024x128) (s₂ := S1024x128) 1 x y concatenates_S1024x128_S1024x128_S1024x256_d1 (ix2 q (Fin.natAdd 128 i)) rfl rfl (ix2 q i)
      (fun b hb => match b, hb with
        | ⟨0, _⟩, _ => rfl
        | ⟨1, _⟩, hb => absurd rfl hb)
      (show i.val + 128 = 128 + i.val from Nat.add_comm _ _)

/-- The entries of the columns before `n`. -/
def upTo (Aq : S1024x128.Idx → EReal) (Ac : S100000x128.Idx → EReal) (q : Fin 1024) (n : ℕ) : Finset Ent :=
  ((Finset.range 100000).filter (· < n)).image fun m => ent (sc Aq Ac q m) m

variable {Aq : S1024x128.Idx → EReal} {Ac : S100000x128.Idx → EReal} {q : Fin 1024}

theorem mem_upTo {n : ℕ} {e : Ent} : e ∈ upTo Aq Ac q n ↔ ∃ m, (m < 100000 ∧ m < n) ∧ ent (sc Aq Ac q m) m = e := by
  unfold upTo
  rw [Finset.mem_image]
  exact exists_congr fun m => and_congr_left' (Finset.mem_filter.trans (and_congr_left' Finset.mem_range))

/-- A block's row of scores. -/
theorem block_row (hb : ∀ n, n < 100000 → neg < sc Aq Ac q n) {j : ℕ} (hj : j < 13) {B : BC Ideal} (hB : IsBlk Ac j B) :
    RowOK neg (row q (scoreN (F := Ideal) (BitVec.ofNat 32 j) Aq B)) (row q (colN (BitVec.ofNat 32 j))) ∧
      ∀ e, e ∈ tab neg (row q (scoreN (F := Ideal) (BitVec.ofNat 32 j) Aq B)) (row q (colN (BitVec.ofNat 32 j))) ↔
        ∃ m, (m < 100000 ∧ 8192 * j ≤ m ∧ m < 8192 * (j + 1)) ∧ ent (sc Aq Ac q m) m = e := by
  have hv : ∀ r, row q (scoreN (F := Ideal) (BitVec.ofNat 32 j) Aq B) r = scz Aq Ac q (8192 * j + r.val) := fun r => scoreN_apply Aq Ac hj hB q r
  have hg : ∀ r : Fin 8192, (row q (colN (BitVec.ofNat 32 j)) r).toNat = 8192 * j + r.val := fun r => by
    have := r.isLt
    show (colN (BitVec.ofNat 32 j) (ix2 q r)).toNat = _
    rw [colN_apply, BitVec.toNat_ofNat]
    omega
  generalize row q (scoreN (F := Ideal) (BitVec.ofNat 32 j) Aq B) = av at hv ⊢
  generalize row q (colN (BitVec.ofNat 32 j)) = ag at hg ⊢
  have hlive : ∀ r : Fin 8192, av r ≠ neg → 8192 * j + r.val < 100000 := by
    intro r hr
    by_contra h
    rw [hv, scz, if_neg h] at hr
    exact hr rfl
  refine ⟨⟨fun r => ?_, fun r r' _ _ h => ?_, fun r _ => ?_⟩, fun e => ?_⟩
  · rw [hv, scz]
    split
    · rename_i h; exact (hb _ h).le
    · exact le_refl _
  · have := hg r
    rw [h, hg r'] at this
    exact Fin.ext (by omega)
  · rw [hg]
    have := r.isLt
    omega
  · rw [mem_tab]
    constructor
    · rintro ⟨r, hr, he⟩
      have := hlive r hr
      have := r.isLt
      refine ⟨8192 * j + r.val, by omega, ?_⟩
      rw [← he, hv, hg, scz, if_pos (hlive r hr)]
    · rintro ⟨m, hm, he⟩
      have hr : m - 8192 * j < 8192 := by omega
      have e1 : 8192 * j + (m - 8192 * j) = m := by omega
      refine ⟨⟨m - 8192 * j, hr⟩, ?_, ?_⟩
      · rw [hv, scz]
        dsimp only
        rw [e1, if_pos hm.1]
        exact ne_of_gt (hb m hm.1)
      · rw [hv, hg, scz]
        dsimp only
        rw [e1, if_pos hm.1]
        exact he

/-- What the carries hold at a row after the columns before `n`. -/
structure Carry (Aq : S1024x128.Idx → EReal) (Ac : S100000x128.Idx → EReal) (q : Fin 1024) (n : ℕ) (T : CN Ideal) : Prop where
  ok : RowOK neg (row q T.1) (row q T.2)
  holds : Holds 10 (tab neg (row q T.1) (row q T.2)) (upTo Aq Ac q n)

theorem carry_zero : Carry Aq Ac q 0 (car0 (F := Ideal)) := by
  have hempty : tab neg (row q (car0 (F := Ideal)).1) (row q (car0 (F := Ideal)).2) = ∅ := by
    rw [Finset.eq_empty_iff_forall_notMem]
    intro e he
    obtain ⟨l, hl, _⟩ := (mem_tab neg).mp he
    exact hl rfl
  have hu : upTo Aq Ac q 0 = ∅ := by
    rw [Finset.eq_empty_iff_forall_notMem]
    intro e he
    obtain ⟨m, hm, _⟩ := mem_upTo.mp he
    omega
  refine ⟨⟨fun _ => le_refl _, fun _ _ h => absurd rfl h, fun _ h => absurd rfl h⟩, ?_⟩
  rw [hempty, hu]
  exact Holds.refl _ _

/-- A point's work: the carries hold the first ten of the columns up to the block's end, and list them in order. -/
theorem carry_step (hb : ∀ n, n < 100000 → neg < sc Aq Ac q n) {j : ℕ} (hj : j < 13) {B : BC Ideal} (hB : IsBlk Ac j B) {T : CN Ideal}
    (hT : Carry Aq Ac q (8192 * j) T) :
    Carry Aq Ac q (8192 * (j + 1)) (nstep (F := Ideal) (BitVec.ofNat 32 j) Aq B T) ∧
      ∃ C, Holds 10 C (upTo Aq Ac q (8192 * (j + 1))) ∧ ∀ (l : Fin 128) (i : ℕ), i < 10 → l.val = i →
        row q (nstep (F := Ideal) (BitVec.ofNat 32 j) Aq B T).1 l = hv neg (drop i C) ∧
        ∀ h : (drop i C).Nonempty, (row q (nstep (F := Ideal) (BitVec.ofNat 32 j) Aq B T).2 l).toNat = ix ((drop i C).min' h) := by
  obtain ⟨okb, hblk⟩ := block_row hb hj hB
  have hP := pulls_row 8192 reduces_S1024x8192_S1024 broadcasts_S1024x1_S1024x8192 q (colN (BitVec.ofNat 32 j)) 10 0 (scoreN (F := Ideal) (BitVec.ofNat 32 j) Aq B)
    (broadcast S1024x128 negW) (broadcast S1024x128 0#32) (mx 128 reduces_S1024x128_S1024 (broadcast S1024x128 negW)) (by omega)
  obtain ⟨ok1, tab1, -⟩ := pulled_tab 8192 q (P := blockN (F := Ideal) (BitVec.ofNat 32 j) Aq B) (by decide) hP okb
  clear hP
  generalize hbe : blockN (F := Ideal) (BitVec.ofNat 32 j) Aq B = b at ok1 tab1
  generalize tab neg (row q (scoreN (F := Ideal) (BitVec.ofNat 32 j) Aq B)) (row q (colN (BitVec.ofNat 32 j))) = bl at hblk tab1
  have hunion : upTo Aq Ac q (8192 * (j + 1)) = upTo Aq Ac q (8192 * j) ∪ bl := by
    ext e
    rw [Finset.mem_union, hblk, mem_upTo, mem_upTo, ← exists_or]
    refine exists_congr fun m => ?_
    rw [← or_and_right]
    refine and_congr_left' ?_
    omega
  have hdisj : Disjoint (tab neg (row q T.1) (row q T.2)) (tab neg (row q b.1) (row q b.2.1)) := by
    rw [Finset.disjoint_left]
    intro e h1 h2
    obtain ⟨m, hm, rfl⟩ := mem_upTo.mp (hT.holds.1 h1)
    rw [tab1] at h2
    obtain ⟨m', hm', he⟩ := (hblk _).mp (top_subset 10 bl h2)
    have := (ent_inj.mp he).2
    omega
  obtain ⟨okc, tabc⟩ := join_rows hT.ok ok1 hdisj
  have hC : Holds 10 (tab neg (row q T.1) (row q T.2) ∪ tab neg (row q b.1) (row q b.2.1)) (upTo Aq Ac q (8192 * (j + 1))) := by
    rw [hunion, tab1]
    exact hT.holds.union (Holds.top 10 bl)
  rw [← tabc] at hC
  rw [← cat_row, ← cat_row] at okc hC
  have hJ := pulls_row 256 reduces_S1024x256_S1024 broadcasts_S1024x1_S1024x256 q (cat T.2 b.2.1) 10 0 (cat T.1 b.1)
    (broadcast S1024x128 negW) (broadcast S1024x128 0#32) (mx 128 reduces_S1024x128_S1024 (broadcast S1024x128 negW)) (by omega)
  obtain ⟨ok2, tab2, -⟩ := pulled_tab 256 q (P := joinN (F := Ideal) (b.1, b.2.1) T) (by decide) hJ okc
  obtain ⟨hl, -⟩ := pulled 256 q (P := joinN (F := Ideal) (b.1, b.2.1) T) (by decide) hJ okc
  have en : nstep (F := Ideal) (BitVec.ofNat 32 j) Aq B T = ((joinN (F := Ideal) (b.1, b.2.1) T).1, (joinN (F := Ideal) (b.1, b.2.1) T).2.1) := by
    unfold nstep
    rw [hbe]
  rw [en]
  refine ⟨⟨ok2, ?_⟩, _, hC, hl⟩
  show Holds 10 (tab neg (row q (joinN (F := Ideal) (b.1, b.2.1) T).1) (row q (joinN (F := Ideal) (b.1, b.2.1) T).2.1)) _
  rw [tab2]
  exact (Holds.top 10 _).trans hC

theorem first_iff1 : ∀ t : Fin grid1.N, (isFirst (BitVec.ofNat 32 t.val) = 1#1) ↔ t.val = 0 := by decide +kernel

/-- What a point starts from. -/
theorem reach1_start (hb : ∀ n, n < 100000 → neg < sc Aq Ac q n) : ∀ (j : ℕ) (h : j < grid1.N) (T : CN Ideal), Reach1 (F := Ideal) Aq Ac j T →
    Carry Aq Ac q (8192 * j) (startN (BitVec.ofNat 32 j) T) := by
  intro j
  induction j with
  | zero =>
    intro h T _
    unfold startN
    rw [if_pos ((first_iff1 ⟨0, h⟩).mpr rfl)]
    exact carry_zero
  | succ j ih =>
    rintro h _ ⟨h', Q, B, T', hT', hQ, hB, rfl⟩
    have hQ := isQ1_eq hQ
    have hB := isB1_blk hB
    subst hQ
    unfold startN
    rw [if_neg (fun e => by have := (first_iff1 ⟨j + 1, h⟩).mp e; simp at this)]
    unfold nnext
    rw [coord1]
    exact (carry_step hb (show j < 13 from h') hB (ih h' T' hT')).1

/-- The naive call lists the first ten of all. -/
theorem naive_lists (hb : ∀ n, n < 100000 → neg < sc Aq Ac q n) (T : CN Ideal) (hT : Reach1 (F := Ideal) Aq Ac 13 T) :
    Lists (allE Aq Ac q) (fun i => T.1 (ix2 q ⟨i.val, by omega⟩)) (fun i => T.2 (ix2 q ⟨i.val, by omega⟩)) := by
  obtain ⟨h', Q, B, T', hT', hQ, hB, rfl⟩ := hT
  have hQ := isQ1_eq hQ
  have hB := isB1_blk hB
  subst hQ
  unfold nnext
  rw [coord1]
  obtain ⟨-, C, hC, hl⟩ := carry_step hb (show 12 < 13 by omega) hB (reach1_start hb 12 h' T' hT')
  have hu : upTo Q Ac q (8192 * (12 + 1)) = allE Q Ac q := by
    ext e
    rw [mem_upTo, mem_allE]
    refine exists_congr fun m => and_congr_left' ?_
    omega
  rw [hu] at hC
  have hcard : 10 ≤ (allE Q Ac q).card := by
    unfold allE
    rw [Finset.card_image_of_injective _ fun m m' h => (ent_inj.mp h).2, Finset.card_range]
    omega
  have hne : ∀ i < 10, (drop i C).Nonempty := fun i hi => drop_nonempty (lt_of_lt_of_le hi (hC.card hcard))
  refine ⟨C, hC, hne, fun i => ?_⟩
  obtain ⟨h1, h2⟩ := hl ⟨i.val, by omega⟩ i.val i.isLt rfl
  exact ⟨h1.trans (hv_of_nonempty (hne i.val i.isLt)), h2 _⟩

end Cert.Kernel.Body

end
-- ==== Proof.Value.lean ====
/-
  Whatever the run may leave in the results' buffers is the reference's values and indices.
-/
module

public import proofs.«01_k».proof.Proof.HostVals
public import proofs.«01_k».proof.Proof.Arrays
public import proofs.«01_k».proof.Proof.Flags
public import proofs.«01_k».proof.Proof.RefTop
public import proofs.«01_k».proof.Proof.Naive

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Rounds
open Idealize.ShloMosaic.Pipeline (RDat Cfg Window)

open Cert.Kernel.Column
open Cert.ReferenceIdeal.Body (topV topI topV_eq topI_eq)

variable {Aq : S1024x128.Idx → EReal} {Ac : S100000x128.Idx → EReal}

/-- The tables at the last point are determined. -/
theorem reach0_unique (T T' : TV Ideal × TI Ideal) (h : Reach0 (F := Ideal) Aq Ac 13 T) (h' : Reach0 (F := Ideal) Aq Ac 13 T') : T = T' := by
  have e : ∀ p q l, colAt T p q l = colAt T' p q l := fun p q l => (reach0_col Aq Ac 12 T h p q l).trans (reach0_col Aq Ac 12 T' h' p q l).symm
  refine Prod.ext (funext fun j => ?_) (funext fun j => ?_)
  · obtain ⟨p, r, q, l, rfl⟩ : ∃ p r q l, j = ix4 p r q l := ⟨j 0, j 1, j 2, j 3, by funext a; fin_cases a <;> rfl⟩
    match r with
    | 0 => exact congrArg Col.t1 (e p q l)
    | 1 => exact congrArg Col.t2 (e p q l)
    | 2 => exact congrArg Col.t3 (e p q l)
  · obtain ⟨p, r, q, l, rfl⟩ : ∃ p r q l, j = ix4 p r q l := ⟨j 0, j 1, j 2, j 3, by funext a; fin_cases a <;> rfl⟩
    match r with
    | 0 => exact congrArg Col.i1 (e p q l)
    | 1 => exact congrArg Col.i2 (e p q l)

theorem good0_of_reach (hb : ∀ q n, n < 100000 → neg < sc Aq Ac q n) (T : TV Ideal × TI Ideal) (h : Reach0 (F := Ideal) Aq Ac 13 T) (q : Fin 1024) : Good0 T q Aq Ac := fun p l => by
  rw [reach0_col Aq Ac 12 T h p q l]
  exact held_col hb p q l 13 le_rfl

/-- A result cut to its first ten lanes. -/
theorem cut_apply {α : Type} (x : S1024x128.Idx → α) (q : Fin 1024) (i : Fin 10) :
    extractStridedSlice S1024x10 ![0, 0] x slices_S1024x128_S1024x10_0_0 (ix2 q i) = x (ix2 q ⟨i.val, by omega⟩) := by
  unfold extractStridedSlice
  refine congrArg x (funext fun a => ?_)
  fin_cases a <;> exact Fin.ext (Nat.zero_add _)

variable (V : Dev nD → Valuation τ sig (Elt Ideal))

/-- The run's results. -/
theorem good_top (c : Dev nD) (W : Valuation τ sig (Elt Ideal)) (hg : Good V c W)
    (hb : ∀ q n, n < 100000 → neg < sc (V c main_v10 : (⟨S1024x128, .f32⟩ : BufTy).Contents (Elt Ideal)) (V c main_v15 : (⟨S100000x128, .f32⟩ : BufTy).Contents (Elt Ideal)) q n) :
    (W main_v20_0 : (⟨S1024x10, .f32⟩ : BufTy).Contents (Elt Ideal)) = topV (V c main_v10) (V c main_v15)
      ∧ (W main_v20_1 : (⟨S1024x10, .i32⟩ : BufTy).Contents (Elt Ideal)) = topI (V c main_v10) (V c main_v15) := by
  obtain ⟨W₀, h₀, ⟨hbr, rfl⟩ | ⟨hbr, W₁, h₁, rfl⟩⟩ := hg
  · obtain ⟨⟨T, hT, e0⟩, ⟨T', hT', e1⟩, ⟨T'', hT'', e2⟩⟩ := left0_out V c _ _ h₀
    obtain rfl := reach0_unique T T' hT hT'
    obtain rfl := reach0_unique T T'' hT hT''
    have hL : ∀ q, Lists (allE (V c main_v10) (V c main_v15) q) (fun i => outV T (ix2 q i)) (fun i => outI T (ix2 q i)) := fun q =>
      fast_lists (good0_of_reach hb T hT q) fun l => by
        have := flags_of_branch W₀ hbr (ix2 q l)
        rw [e2] at this
        exact this
    have k0 : (StableHlo.after keepOps (atBranch W₀) main_v20_0 : (⟨S1024x10, .f32⟩ : BufTy).Contents (Elt Ideal)) = outV T := by
      refine Eq.trans ?_ ((atBranch_in W₀ main_v16_0 (by decide)).trans e0)
      simp only [keepOps]
      after_results
      rfl
    have k1 : (StableHlo.after keepOps (atBranch W₀) main_v20_1 : (⟨S1024x10, .i32⟩ : BufTy).Contents (Elt Ideal)) = outI T := by
      refine Eq.trans ?_ ((atBranch_in W₀ main_v16_1 (by decide)).trans e1)
      simp only [keepOps]
      after_results
      rfl
    exact ⟨k0.trans (topV_eq _ _ _ fun q => ⟨_, hL q⟩), k1.trans (topI_eq _ _ _ fun q => ⟨_, hL q⟩)⟩
  · obtain ⟨⟨T, hT, e0⟩, ⟨T', hT', e1⟩⟩ := left1_out V c _ _ h₁
    have k0 : (StableHlo.after cutOps W₁ main_v20_0 : (⟨S1024x10, .f32⟩ : BufTy).Contents (Elt Ideal)) = extractStridedSlice S1024x10 ![0, 0] T.1 slices_S1024x128_S1024x10_0_0 := by
      rw [← e0]
      simp only [cutOps]
      after_results
      rfl
    have k1 : (StableHlo.after cutOps W₁ main_v20_1 : (⟨S1024x10, .i32⟩ : BufTy).Contents (Elt Ideal)) = extractStridedSlice S1024x10 ![0, 0] T'.2 slices_S1024x128_S1024x10_0_0 := by
      rw [← e1]
      simp only [cutOps]
      after_results
      rfl
    refine ⟨k0.trans (topV_eq _ _ _ fun q => ⟨fun i => T.2 (ix2 q ⟨i.val, by omega⟩), ?_⟩), k1.trans (topI_eq _ _ _ fun q => ⟨fun i => T'.1 (ix2 q ⟨i.val, by omega⟩), ?_⟩)⟩
    · simp only [cut_apply]
      exact naive_lists (hb q) T hT
    · simp only [cut_apply]
      exact naive_lists (hb q) T' hT'

end Cert.Kernel.Body

end
-- ==== Proof.Algebraic.lean ====
/-
  The kernel and the reference, over the extended reals, end with the same values and indices.
-/
module

public import proofs.«01_k».proof.Proof.Value
public import proofs.«01_k».proof.Proof.Gen.ReferenceIdeal.Run

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Rounds
open Idealize.ShloMosaic.Pipeline (RDat Cfg Window)

open Cert.ReferenceIdeal.Body (topV topI)

theorem run_top (m : (ℓ : Loc nD τ sig) → Buf (Elt Ideal) ℓ) (c : Dev nD) (s : MemSt nD τ sig (Elt Ideal)) (h : Final m c s) :
    s.mem ((c : Thread nD τ).loc main_v20_0) = topV (F := Ideal) (qnOf (m (c, main_arg0)) (m (c, main_arg2))) (cnOf (m (c, main_arg1)) (m (c, main_arg2)))
      ∧ s.mem ((c : Thread nD τ).loc main_v20_1) = topI (F := Ideal) (qnOf (m (c, main_arg0)) (m (c, main_arg2))) (cnOf (m (c, main_arg1)) (m (c, main_arg2))) := by
  obtain ⟨W, hg, hW⟩ := h
  have e10 := V5_v10 m c
  have e15 := V5_v15 m c
  have hb : ∀ q n, n < 100000 → neg < sc (V5 m c main_v10 : (⟨S1024x128, .f32⟩ : BufTy).Contents (Elt Ideal)) (V5 m c main_v15 : (⟨S100000x128, .f32⟩ : BufTy).Contents (Elt Ideal)) q n := by
    rw [e10, e15]
    exact neg_lt_sc _ _ _
  obtain ⟨h0, h1⟩ := good_top (V5 m) c W hg hb
  rw [e10, e15] at h0 h1
  exact ⟨(hW main_v20_0 (by decide)).trans h0, (hW main_v20_1 (by decide)).trans h1⟩

/-- The kernel's run over the extended reals. -/
def ValueKernel : Prop :=
  ∀ (m : (ℓ : Loc Cert.Kernel.nD Cert.Kernel.τ Cert.Kernel.sig) → Buf (Elt Ideal) ℓ) (g : Dev Cert.Kernel.nD → PrngReg),
    θ_run (Cert.Kernel.defs (F := Ideal)) (onTc (τ := Cert.Kernel.τ) (Cert.Kernel.main (F := Ideal))) ⟨m, fun _ => 0, g⟩ (fun r => ∀ c : Dev Cert.Kernel.nD,
      r.2.mem ((c.tc : Thread Cert.Kernel.nD Cert.Kernel.τ).loc Cert.Kernel.main_v20_0)
        = topV (F := Ideal) (qnOf (m ((c.tc : Thread Cert.Kernel.nD Cert.Kernel.τ).loc Cert.Kernel.main_arg0)) (m ((c.tc : Thread Cert.Kernel.nD Cert.Kernel.τ).loc Cert.Kernel.main_arg2)))
            (cnOf (m ((c.tc : Thread Cert.Kernel.nD Cert.Kernel.τ).loc Cert.Kernel.main_arg1)) (m ((c.tc : Thread Cert.Kernel.nD Cert.Kernel.τ).loc Cert.Kernel.main_arg2)))
      ∧ r.2.mem ((c.tc : Thread Cert.Kernel.nD Cert.Kernel.τ).loc Cert.Kernel.main_v20_1)
        = topI (F := Ideal) (qnOf (m ((c.tc : Thread Cert.Kernel.nD Cert.Kernel.τ).loc Cert.Kernel.main_arg0)) (m ((c.tc : Thread Cert.Kernel.nD Cert.Kernel.τ).loc Cert.Kernel.main_arg2)))
            (cnOf (m ((c.tc : Thread Cert.Kernel.nD Cert.Kernel.τ).loc Cert.Kernel.main_arg1)) (m ((c.tc : Thread Cert.Kernel.nD Cert.Kernel.τ).loc Cert.Kernel.main_arg2)))
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

theorem value_kernel : ValueKernel := fun m g =>
  (θ_run _ _ _).mono (fun r h c => ⟨(run_top m c r.2 (h.1 c)).1, (run_top m c r.2 (h.1 c)).2, final_arg m c r.2 (h.1 c) main_arg0 (.inl rfl),
    final_arg m c r.2 (h.1 c) main_arg1 (.inr (.inl rfl)), final_arg m c r.2 (h.1 c) main_arg2 (.inr (.inr rfl))⟩) (run_main m g)

/-- The same of the idealized program. -/
def ValueIdeal : Prop :=
  ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v20_0)
        = topV (F := Ideal) (qnOf (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
            (cnOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      ∧ r.2.mem ((c.tc : Thread Cert.KernelIdeal.nD Cert.KernelIdeal.τ).loc Cert.KernelIdeal.main_v20_1)
        = topI (F := Ideal) (qnOf (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
            (cnOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

theorem value_eq : ValueKernel = ValueIdeal := by unfold ValueKernel ValueIdeal; chain_rfl

theorem value_ideal : ValueIdeal := value_eq ▸ value_kernel

/-- The equality of results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨_, _, value_ideal m g, (θ_run _ _ _).mono (fun r h c => ?_) (Cert.ReferenceIdeal.Value.run (F := Ideal) m' g')⟩
  obtain ⟨a0, a1, a2⟩ := hargs c
  obtain ⟨r0, r1, hr⟩ := h c
  refine ⟨?_, ?_, hr⟩
  · refine Eq.trans ?_ (congrArg₂ (topV (F := Ideal)) (congrArg₂ (qnOf (F := Ideal)) a0 a2) (congrArg₂ (cnOf (F := Ideal)) a1 a2))
    exact r0
  · refine Eq.trans ?_ (congrArg₂ (topI (F := Ideal)) (congrArg₂ (qnOf (F := Ideal)) a0 a2) (congrArg₂ (cnOf (F := Ideal)) a1 a2))
    exact r1

end Cert.Kernel.Body

end
-- ==== Proof.lean ====
/-
  The claim, assembled from the modules of Proof/.
-/
module

public import proofs.«01_k».proof.Defs
public import proofs.«01_k».proof.Proof.Frame
public import proofs.«01_k».proof.Proof.Algebraic
public import proofs.«01_k».proof.Proof.Gen.ReferenceIdeal.Run

@[expose] public section

noncomputable section

namespace Cert.Proof

open Idealize.ShloMosaic Idealize.SL.Sem Cert.Kernel

/-- The reference runs and leaves its arguments as they were; it declares no semaphore. -/
theorem frame_ref : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run (F := Ideal) m g)

theorem claim : Cert.Claim := ⟨Cert.Kernel.Gen.facts, Cert.KernelIdeal.Gen.facts, Cert.ReferenceIdeal.Gen.facts,
  Cert.Kernel.Body.frame_kernel, Cert.Kernel.Body.frame_ideal, frame_ref, trivial,
  Cert.Kernel.Body.algebraic⟩

end Cert.Proof

end
